-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x18432 : Shape := ⟨3, ![6, 256, 18432]⟩
abbrev S6x256 : Shape := ⟨2, ![6, 256]⟩
abbrev S2 : Shape := ⟨1, ![2]⟩
abbrev S1536x18432 : Shape := ⟨2, ![1536, 18432]⟩
abbrev S32x18432 : Shape := ⟨2, ![32, 18432]⟩
abbrev S1 : Shape := ⟨1, ![1]⟩
abbrev S8x128 : Shape := ⟨2, ![8, 128]⟩
abbrev S6x128 : Shape := ⟨2, ![6, 128]⟩
abbrev S128 : Shape := ⟨1, ![128]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S8x128x1 : Shape := ⟨3, ![8, 128, 1]⟩

abbrev nBuf : Space → Nat
  | .hbm => 9
  | .vmem => 9
  | .smem => 1
  | _ => 0

abbrev bufTy : (tb : Table) → Fin (tcTables nBuf tb) → BufTy
  | .hbm, ⟨0, _⟩ => ⟨S6x256x18432, .fp8e5m2⟩
  | .hbm, ⟨1, _⟩ => ⟨S6x256, .f32⟩
  | .hbm, ⟨2, _⟩ => ⟨S2, .i32⟩
  | .hbm, ⟨3, _⟩ => ⟨S6x256x18432, .bf16⟩
  | .hbm, ⟨4, _⟩ => ⟨S1536x18432, .fp8e5m2⟩
  | .hbm, ⟨5, _⟩ => ⟨S1536x18432, .bf16⟩
  | .hbm, ⟨6, _⟩ => ⟨S1536x18432, .fp8e5m2⟩
  | .hbm, ⟨7, _⟩ => ⟨S6x256, .f32⟩
  | .hbm, ⟨8, _⟩ => ⟨S6x256x18432, .fp8e5m2⟩
  | .local _ .vmem, ⟨0, _⟩ => ⟨S6x256, .f32⟩
  | .local _ .vmem, ⟨1, _⟩ => ⟨S32x18432, .fp8e5m2⟩
  | .local _ .vmem, ⟨2, _⟩ => ⟨S32x18432, .fp8e5m2⟩
  | .local _ .vmem, ⟨3, _⟩ => ⟨S32x18432, .bf16⟩
  | .local _ .vmem, ⟨4, _⟩ => ⟨S32x18432, .bf16⟩
  | .local _ .vmem, ⟨5, _⟩ => ⟨S32x18432, .fp8e5m2⟩
  | .local _ .vmem, ⟨6, _⟩ => ⟨S32x18432, .fp8e5m2⟩
  | .local _ .vmem, ⟨7, _⟩ => ⟨S6x256, .f32⟩
  | .local _ .vmem, ⟨8, _⟩ => ⟨S32x18432, .f32⟩
  | .local _ .smem, ⟨0, _⟩ => ⟨S2, .i32⟩
  | _, _ => ⟨S6x256x18432, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c32_i32_26 : BitVec 32 := 32#32
  let v55 : BitVec 32 := Scalar.muli arg0 c32_i32_26
  let c256_i32_27 : BitVec 32 := 256#32
  let c0_i32_28 : BitVec 32 := 0#32
  let v56 : BitVec 1 := Scalar.cmpi .eq c256_i32_27 c0_i32_28
  let c1_i32_29 : BitVec 32 := 1#32
  let v57 : BitVec 32 := Scalar.select v56 c1_i32_29 c256_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c128_i32 : BitVec 32 := 128#32
  let c0_i32_35 : BitVec 32 := 0#32
  let v72 : BitVec 1 := Scalar.cmpi .sgt c128_i32 c0_i32_35
  let v73 : BitVec 32 := Scalar.extui v72
  let c0_i32_36 : BitVec 32 := 0#32
  let v74 : BitVec 1 := Scalar.cmpi .slt c128_i32 c0_i32_36
  let v75 : BitVec 32 := Scalar.extui v74
  let v76 : BitVec 32 := Scalar.subi v73 v75
  let v77 : BitVec 1 := Scalar.cmpi .ne v71 v76
  let v78 : BitVec 32 := Scalar.remsi v65 c128_i32
  let c0_i32_37 : BitVec 32 := 0#32
  let v79 : BitVec 1 := Scalar.cmpi .ne v78 c0_i32_37
  let v80 : BitVec 1 := Scalar.andi v77 v79
  let v66 : BitVec 32 := Scalar.divsi v65 c128_i32
  let c1_i32_38 : BitVec 32 := 1#32
  let v81 : BitVec 32 := Scalar.subi v66 c1_i32_38
  let v82 : BitVec 32 := Scalar.select v80 v81 v66
  let c128_i32_39 : BitVec 32 := 128#32
  let v83 : BitVec 32 := Scalar.muli v82 c128_i32_39
  v83
def k0_off1 (i : grid0.Coords) : Fin 2 → Nat :=
  let c0_46 : Index := 0#32
  let arg0 : BitVec 32 := BitVec.ofNat 32 (i 0).val
  let c32_i32_26 : BitVec 32 := 32#32
  let v55 : BitVec 32 := Scalar.muli arg0 c32_i32_26
  let c256_i32_27 : BitVec 32 := 256#32
  let c0_i32_28 : BitVec 32 := 0#32
  let v56 : BitVec 1 := Scalar.cmpi .eq c256_i32_27 c0_i32_28
  let c1_i32_29 : BitVec 32 := 1#32
  let v57 : BitVec 32 := Scalar.select v56 c1_i32_29 c256_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c128_i32 : BitVec 32 := 128#32
  let c0_i32_35 : BitVec 32 := 0#32
  let v72 : BitVec 1 := Scalar.cmpi .sgt c128_i32 c0_i32_35
  let v73 : BitVec 32 := Scalar.extui v72
  let c0_i32_36 : BitVec 32 := 0#32
  let v74 : BitVec 1 := Scalar.cmpi .slt c128_i32 c0_i32_36
  let v75 : BitVec 32 := Scalar.extui v74
  let v76 : BitVec 32 := Scalar.subi v73 v75
  let v77 : BitVec 1 := Scalar.cmpi .ne v71 v76
  let v78 : BitVec 32 := Scalar.remsi v65 c128_i32
  let c0_i32_37 : BitVec 32 := 0#32
  let v79 : BitVec 1 := Scalar.cmpi .ne v78 c0_i32_37
  let v80 : BitVec 1 := Scalar.andi v77 v79
  let v66 : BitVec 32 := Scalar.divsi v65 c128_i32
  let c1_i32_38 : BitVec 32 := 1#32
  let v81 : BitVec 32 := Scalar.subi v66 c1_i32_38
  let v82 : BitVec 32 := Scalar.select v80 v81 v66
  let c128_i32_39 : BitVec 32 := 128#32
  let v83 : BitVec 32 := Scalar.muli v82 c128_i32_39
  let v84 : BitVec 32 := v83
  let v98 : Index := Scalar.indexCast v84
  ![0, v98.toNat]
@[reducible] def k0_t1_loop : Scf.Loop 32 :=
  let c0_i32_57 : BitVec 32 := 0#32
  let c36_i32 : BitVec 32 := 36#32
  let v140 : BitVec 32 := Scalar.addi c0_i32_57 c36_i32
  let c1_i32_58 : BitVec 32 := 1#32
  ⟨c0_i32_57, v140, c1_i32_58⟩
def k0_mult2 (k0_t1 : Fin k0_t1_loop.trips) : BitVec 32 :=
  let c0_i32_57 : BitVec 32 := 0#32
  let c1_i32_58 : BitVec 32 := 1#32
  let arg8 : BitVec 32 := Scf.iv c0_i32_57 c1_i32_58 k0_t1
  let c512_i32_824 : BitVec 32 := 512#32
  let v2198 : BitVec 32 := Scalar.muli arg8 c512_i32_824
  let c0_i32_825 : BitVec 32 := 0#32
  let v2199 : BitVec 32 := Scalar.addi v2198 c0_i32_825
  v2199
def k0_off2 (k0_t1 : Fin k0_t1_loop.trips) (c0_i32_825 : BitVec 32) : Fin 2 → Nat :=
  let c0_834 : Index := 0#32
  let c0_i32_57 : BitVec 32 := 0#32
  let c1_i32_58 : BitVec 32 := 1#32
  let arg8 : BitVec 32 := Scf.iv c0_i32_57 c1_i32_58 k0_t1
  let c512_i32_824 : BitVec 32 := 512#32
  let v2198 : BitVec 32 := Scalar.muli arg8 c512_i32_824
  let v2199 : BitVec 32 := Scalar.addi v2198 c0_i32_825
  let v2200 : BitVec 32 := v2199
  let v2224 : Index := Scalar.indexCast v2200
  ![0, v2224.toNat]
def k0_mult3 (k0_t1 : Fin k0_t1_loop.trips) : BitVec 32 :=
  let c0_i32_57 : BitVec 32 := 0#32
  let c1_i32_58 : BitVec 32 := 1#32
  let arg8 : BitVec 32 := Scf.iv c0_i32_57 c1_i32_58 k0_t1
  let c512_i32_849 : BitVec 32 := 512#32
  let v2278 : BitVec 32 := Scalar.muli arg8 c512_i32_849
  let c128_i32_850 : BitVec 32 := 128#32
  let v2279 : BitVec 32 := Scalar.addi v2278 c128_i32_850
  v2279
def k0_mult4 (k0_t1 : Fin k0_t1_loop.trips) : BitVec 32 :=
  let c0_i32_57 : BitVec 32 := 0#32
  let c1_i32_58 : BitVec 32 := 1#32
  let arg8 : BitVec 32 := Scf.iv c0_i32_57 c1_i32_58 k0_t1
  let c512_i32_875 : BitVec 32 := 512#32
  let v2358 : BitVec 32 := Scalar.muli arg8 c512_i32_875
  let c256_i32_876 : BitVec 32 := 256#32
  let v2359 : BitVec 32 := Scalar.addi v2358 c256_i32_876
  v2359
def k0_mult5 (k0_t1 : Fin k0_t1_loop.trips) : BitVec 32 :=
  let c0_i32_57 : BitVec 32 := 0#32
  let c1_i32_58 : BitVec 32 := 1#32
  let arg8 : BitVec 32 := Scf.iv c0_i32_57 c1_i32_58 k0_t1
  let c512_i32_900 : BitVec 32 := 512#32
  let v2438 : BitVec 32 := Scalar.muli arg8 c512_i32_900
  let c384_i32 : BitVec 32 := 384#32
  let v2439 : BitVec 32 := Scalar.addi v2438 c384_i32
  v2439
@[reducible] def k0_t2_loop : Scf.Loop 32 :=
  let c0_i32_81 : BitVec 32 := 0#32
  let c36_i32_82 : BitVec 32 := 36#32
  let v228 : BitVec 32 := Scalar.addi c0_i32_81 c36_i32_82
  let c1_i32_83 : BitVec 32 := 1#32
  ⟨c0_i32_81, v228, c1_i32_83⟩
def k0_mult6 (k0_t2 : Fin k0_t2_loop.trips) : BitVec 32 :=
  let c0_i32_81 : BitVec 32 := 0#32
  let c1_i32_83 : BitVec 32 := 1#32
  let arg8 : BitVec 32 := Scf.iv c0_i32_81 c1_i32_83 k0_t2
  let c512_i32 : BitVec 32 := 512#32
  let v249 : BitVec 32 := Scalar.muli arg8 c512_i32
  let c0_i32_90 : BitVec 32 := 0#32
  let v250 : BitVec 32 := Scalar.addi v249 c0_i32_90
  v250
def k0_off3 (k0_t2 : Fin k0_t2_loop.trips) (c0_i32_90 : BitVec 32) : Fin 2 → Nat :=
  let c0_91 : Index := 0#32
  let c0_i32_81 : BitVec 32 := 0#32
  let c1_i32_83 : BitVec 32 := 1#32
  let arg8 : BitVec 32 := Scf.iv c0_i32_81 c1_i32_83 k0_t2
  let c512_i32 : BitVec 32 := 512#32
  let v249 : BitVec 32 := Scalar.muli arg8 c512_i32
  let v250 : BitVec 32 := Scalar.addi v249 c0_i32_90
  let v251 : BitVec 32 := v250
  let v252 : Index := Scalar.indexCast v251
  ![0, v252.toNat]
def k0_mult7 (k0_t2 : Fin k0_t2_loop.trips) : BitVec 32 :=
  let c0_i32_81 : BitVec 32 := 0#32
  let c1_i32_83 : BitVec 32 := 1#32
  let arg8 : BitVec 32 := Scf.iv c0_i32_81 c1_i32_83 k0_t2
  let c512_i32_95 : BitVec 32 := 512#32
  let v262 : BitVec 32 := Scalar.muli arg8 c512_i32_95
  let c128_i32_96 : BitVec 32 := 128#32
  let v263 : BitVec 32 := Scalar.addi v262 c128_i32_96
  v263
def k0_mult8 (k0_t2 : Fin k0_t2_loop.trips) : BitVec 32 :=
  let c0_i32_81 : BitVec 32 := 0#32
  let c1_i32_83 : BitVec 32 := 1#32
  let arg8 : BitVec 32 := Scf.iv c0_i32_81 c1_i32_83 k0_t2
  let c512_i32_101 : BitVec 32 := 512#32
  let v275 : BitVec 32 := Scalar.muli arg8 c512_i32_101
  let c256_i32_102 : BitVec 32 := 256#32
  let v276 : BitVec 32 := Scalar.addi v275 c256_i32_102
  v276
def k0_mult9 (k0_t2 : Fin k0_t2_loop.trips) : BitVec 32 :=
  let c0_i32_81 : BitVec 32 := 0#32
  let c1_i32_83 : BitVec 32 := 1#32
  let arg8 : BitVec 32 := Scf.iv c0_i32_81 c1_i32_83 k0_t2
  let c512_i32_107 : BitVec 32 := 512#32
  let v288 : BitVec 32 := Scalar.muli arg8 c512_i32_107
  let c384_i32 : BitVec 32 := 384#32
  let v289 : BitVec 32 := Scalar.addi v288 c384_i32
  v289
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x18432 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x18432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x18432 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S6x256x18432 : Shape := ⟨3, ![6, 256, 18432]⟩
abbrev S6x256 : Shape := ⟨2, ![6, 256]⟩
abbrev S2 : Shape := ⟨1, ![2]⟩
abbrev S6x256x4608 : Shape := ⟨3, ![6, 256, 4608]⟩
abbrev S1 : Shape := ⟨1, ![1]⟩
abbrev S6x256x4608x1 : Shape := ⟨4, ![6, 256, 4608, 1]⟩
abbrev S6x256x4608x4 : Shape := ⟨4, ![6, 256, 4608, 4]⟩
abbrev S6x256x1 : Shape := ⟨3, ![6, 256, 1]⟩
abbrev S6x256x252 : Shape := ⟨3, ![6, 256, 252]⟩

abbrev nBuf : Space → Nat
  | .hbm => 6
  | .vmem => 5
  | .smem => 1
  | _ => 0

abbrev bufTy : (tb : Table) → Fin (tcTables nBuf tb) → BufTy
  | .hbm, ⟨0, _⟩ => ⟨S6x256x18432, .fp8e5m2⟩
  | .hbm, ⟨1, _⟩ => ⟨S6x256, .f32⟩
  | .hbm, ⟨2, _⟩ => ⟨S2, .i32⟩
  | .hbm, ⟨3, _⟩ => ⟨S6x256x18432, .bf16⟩
  | .hbm, ⟨4, _⟩ => ⟨S6x256x18432, .fp8e5m2⟩
  | .hbm, ⟨5, _⟩ => ⟨S6x256, .f32⟩
  | .local _ .vmem, ⟨0, _⟩ => ⟨S6x256x18432, .fp8e5m2⟩
  | .local _ .vmem, ⟨1, _⟩ => ⟨S6x256, .f32⟩
  | .local _ .vmem, ⟨2, _⟩ => ⟨S6x256x18432, .bf16⟩
  | .local _ .vmem, ⟨3, _⟩ => ⟨S6x256x18432, .fp8e5m2⟩
  | .local _ .vmem, ⟨4, _⟩ => ⟨S6x256, .f32⟩
  | .local _ .smem, ⟨0, _⟩ => ⟨S2, .i32⟩
  | _, _ => ⟨S6x256x18432, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c10_i32 : BitVec 32 := 10#32
  let v12 : BitVec 32 := Scalar.addi c0_i32_0 c10_i32
  let c1_i32 : BitVec 32 := 1#32
  ⟨c0_i32_0, v12, c1_i32⟩
abbrev stage0_0 : Fin 1 → Memref sig .tc .vmem S6x256x18432 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x18432 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelShared.lean ====
/- Shared definitions of the runs of the kernel body: the branch condition in closed form, the staging memrefs, the scratch. -/
module

public import proofs.«01_k».proof.Proof.Gen.Kernel.Frame
public import proofs.«01_k».proof.Proof.Gen.Kernel.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-! ## The kernel body on any staging memrefs: a subtype the run finds -/

/-- One staging buffer of output window 4, through which its contents are stated (`View.read_writes_of_cover`: the
    choice does not matter). -/
abbrev VO0_4 : View sig .tc .vmem S32x18432 .fp8e5m2 := (Memref.whole cc0_stg4_0 : Memref sig .tc .vmem S32x18432 .fp8e5m2).view
/-- One staging buffer of output window 5, through which its contents are stated (`View.read_writes_of_cover`: the
    choice does not matter). -/
abbrev VO0_5 : View sig .tc .vmem S6x256 .f32 := (Memref.whole cc0_stg5_0 : Memref sig .tc .vmem S6x256 .f32).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18432 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x18432 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S32x18432 .f32 := Memref.whole cc0_scratch0

/-- The frame kit's invariant with the scratch operand held at some contents: what the body obligation hands the run and
    takes back. -/
theorem PhiA0_eq (c : Dev nD) :
    (Pipeline.ΦA spec0 c : sProp 𝕄)
      = iprop(iprop(∃ f, scM0_0.view.loc (c : Thread nD τ) ↦[scM0_0.view.set]{fullShare} f) ∗ (∃ r, prngReg c r)) := by
  unfold Pipeline.ΦA; rw [scopedRest0_eq]; simp only [scM0_0, Memref.view_whole, View.set_whole]; try rfl

/-- Stores that cover a whole buffer leave the same contents whatever it held before. -/
theorem writes_base_eq {sp : Space} {sh : Shape} {e : EltTy} {a : Memref sig .tc sp sh e} (ha : a.IsWhole)
    (f f' : a.view.ty.Contents (Elt F)) (L : List (View.Piece (Elt F) sh e)) (h : ∀ y, ∃ p ∈ L, y ∈ p.1.set) :
    a.view.writes (Elt F) f L = a.view.writes (Elt F) f' L := by
  rw [ha.eq_unread (View.read_writes_of_cover a.view f a.view f' L h)]
  exact (ha.eq_unread rfl).symm

/-- The lane half the scales of the rows of grid point `i` lie in: `0` or `128`, in closed form — checked at each of the
    48 points. -/
theorem k0_off1_eq (i : grid0.Coords) : k0_off1 i = ![0, 128 * ((i 0).val / 4 % 2)] := by
  have h : ∀ n : Fin 48, k0_off1 (fun | ⟨0, _⟩ => n) = ![0, 128 * (n.val / 4 % 2)] := by decide +kernel
  have e : i = fun | ⟨0, _⟩ => i 0 := by
    funext a
    match a with
    | ⟨0, _⟩ => rfl
  rw [e]; exact h (i 0)
instance (i : grid0.Coords) : ClosedOff (k0_off1 i) := ⟨![0, 128 * ((i 0).val / 4 % 2)], k0_off1_eq i⟩

end Cert.Kernel.Body

end
-- ==== Proof.KernelRunA.lean ====
/- The run of the kernel body at the first grid point. -/
module

public import proofs.«01_k».proof.Proof.KernelShared

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffer at `fs0`, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) :
    Σ' (L4 : List (View.Piece (Elt F) S32x18432 .fp8e5m2)), { L5 : List (View.Piece (Elt F) S6x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (arg7.view.loc (c : Thread nD τ) ↦[arg7.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} f)) -∗ K ⟨⟩))
          ⊢ wp frame (wpE (defs₀ (F := F)) Variants.none c none) E (cc0_philox_dropout_bwd i arg1 harg1 arg2 harg2 arg3 harg3 arg4 harg4 arg5 harg5 arg6 harg6 arg7 harg7) K } := by
  refine ⟨?_, ?_, fun E K => ?run⟩
  case run =>
    simp only [cc0_philox_dropout_bwd_eq_skeleton]; unfold cc0_philox_dropout_bwd_skel
    simp only [k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HS0, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Body

end
-- ==== Proof.KernelRunB.lean ====
/- The run of the kernel body at a later grid point. -/
module

public import proofs.«01_k».proof.Proof.KernelRunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 47: 47 of 48), WITH the
    proof that on whole staging memrefs — the inputs' at their contents, the outputs it reads before covering (5) at their running contents `xo·`, the other outputs' at
    anything, the scratch buffer at `fs0`, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 : BufTy.Contents (Elt F) arg7.view.ty) (xo5 : Vec F S6x256 .f32) :
    Σ' (L4 : List (View.Piece (Elt F) S32x18432 .fp8e5m2)), { L5 : List (View.Piece (Elt F) S6x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ (arg7.view.loc (c : Thread nD τ) ↦[arg7.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xo5) L5) ∗ (∃ f, arg7.view.loc (c : Thread nD τ) ↦[arg7.view.set]{fullShare} f)) -∗ K ⟨⟩))
          ⊢ wp frame (wpE (defs₀ (F := F)) Variants.none c none) E (cc0_philox_dropout_bwd i arg1 harg1 arg2 harg2 arg3 harg3 arg4 harg4 arg5 harg5 arg6 harg6 arg7 harg7) K } := by
  refine ⟨?_, ?_, fun E K => ?run⟩
  case run =>
    simp only [cc0_philox_dropout_bwd_eq_skeleton]; unfold cc0_philox_dropout_bwd_skel
    simp only [k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, HS0, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    iexists _; iexact HS0

end Cert.Kernel.Body

end
-- ==== Proof.KernelPieces.lean ====
/- What the runs leave in the output blocks, by name. -/
module

public import proofs.«01_k».proof.Proof.KernelRunB
public import Idealize.ShloMosaic.Lib.Pipeline.Value

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the pieces of output 4 do not depend on what the scratch held before: the first loop covers it. -/
theorem pieces4_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 fs1 : BufTy.Contents (Elt F) arg7.view.ty) :
    (kernelRun0_A c i arg1 harg1 arg2 harg2 arg3 harg3 arg4 harg4 arg5 harg5 arg6 harg6 arg7 harg7 hc0 x0 x1 x2 x3 fs0).1 = (kernelRun0_A c i arg1 harg1 arg2 harg2 arg3 harg3 arg4 harg4 arg5 harg5 arg6 harg6 arg7 harg7 hc0 x0 x1 x2 x3 fs1).1 := by
  dsimp only [kernelRun0_A]
  rw [writes_base_eq harg7 fs0 fs1 _ (View.cover_of_tiledL _ S32x128.size (by sl_kernel_rfl))]

/-- In case B the pieces of output 4 do not depend on what the scratch held before: the first loop covers it. -/
theorem pieces4_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 fs1 : BufTy.Contents (Elt F) arg7.view.ty) (xo5 : Vec F S6x256 .f32) :
    (kernelRun0_B c i arg1 harg1 arg2 harg2 arg3 harg3 arg4 harg4 arg5 harg5 arg6 harg6 arg7 harg7 hc0 x0 x1 x2 x3 fs0 xo5).1 = (kernelRun0_B c i arg1 harg1 arg2 harg2 arg3 harg3 arg4 harg4 arg5 harg5 arg6 harg6 arg7 harg7 hc0 x0 x1 x2 x3 fs1 xo5).1 := by
  dsimp only [kernelRun0_B]
  rw [writes_base_eq harg7 fs0 fs1 _ (View.cover_of_tiledL _ S32x128.size (by sl_kernel_rfl))]

/-- In case A the pieces of output 5 do not depend on what the scratch held before. -/
theorem pieces5_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 fs1 : BufTy.Contents (Elt F) arg7.view.ty) :
    (kernelRun0_A c i arg1 harg1 arg2 harg2 arg3 harg3 arg4 harg4 arg5 harg5 arg6 harg6 arg7 harg7 hc0 x0 x1 x2 x3 fs0).2.1 = (kernelRun0_A c i arg1 harg1 arg2 harg2 arg3 harg3 arg4 harg4 arg5 harg5 arg6 harg6 arg7 harg7 hc0 x0 x1 x2 x3 fs1).2.1 := by
  dsimp only [kernelRun0_A]

/-- In case B the pieces of output 5 do not depend on what the scratch held before. -/
theorem pieces5_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 fs1 : BufTy.Contents (Elt F) arg7.view.ty) (xo5 : Vec F S6x256 .f32) :
    (kernelRun0_B c i arg1 harg1 arg2 harg2 arg3 harg3 arg4 harg4 arg5 harg5 arg6 harg6 arg7 harg7 hc0 x0 x1 x2 x3 fs0 xo5).2.1 = (kernelRun0_B c i arg1 harg1 arg2 harg2 arg3 harg3 arg4 harg4 arg5 harg5 arg6 harg6 arg7 harg7 hc0 x0 x1 x2 x3 fs1 xo5).2.1 := by
  dsimp only [kernelRun0_B]

/-- Case A's pieces for output 4 tile its block (144 stores of `S32x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) (y : S32x18432.Idx) :
    ∃ pc ∈ (kernelRun0_A c i arg1 harg1 arg2 harg2 arg3 harg3 arg4 harg4 arg5 harg5 arg6 harg6 arg7 harg7 hc0 x0 x1 x2 x3 fs0).1, y ∈ pc.1.set :=
  View.cover_of_tiledL (kernelRun0_A c i arg1 harg1 arg2 harg2 arg3 harg3 arg4 harg4 arg5 harg5 arg6 harg6 arg7 harg7 hc0 x0 x1 x2 x3 fs0).1 S32x128.size (by sl_kernel_rfl) y

/-- What case A leaves in output 4's staging buffer: its pieces read back over junk. -/
def out0_A_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) : Vec F S32x18432 .fp8e5m2 :=
  VO0_4.read (Elt F) (VO0_4.writes (Elt F) VO0_4.junk (kernelRun0_A c i arg1 harg1 arg2 harg2 arg3 harg3 arg4 harg4 arg5 harg5 arg6 harg6 arg7 harg7 hc0 x0 x1 x2 x3 arg7.view.junk).1)

/-- Case A's pieces for output 5 are two, the second of which (the zeros of the first point) is the whole block: so they cover it. -/
theorem cover0_A_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) (y : S6x256.Idx) :
    ∃ pc ∈ (kernelRun0_A c i arg1 harg1 arg2 harg2 arg3 harg3 arg4 harg4 arg5 harg5 arg6 harg6 arg7 harg7 hc0 x0 x1 x2 x3 fs0).2.1, y ∈ pc.1.set :=
  ⟨_, List.mem_cons_of_mem _ (List.mem_cons_self ..), View.mem_set_unit_zero (S := S6x256) (by funext a; fin_cases a <;> rfl) (by decide) y⟩

/-- What case A leaves in output 5's staging buffer: its pieces read back over junk. -/
def out0_A_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) : Vec F S6x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 arg7.view.junk).2.1)

/-- Case B's pieces for output 4 tile its block (144 stores of `S32x128`, checked by the kernel's evaluation: Lib/Ring.lean `Piece.tiledL`, linear in the pieces, through a loop's `@[irreducible]` trip theorem too), so they cover it. -/
theorem cover0_B_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 : BufTy.Contents (Elt F) arg7.view.ty) (xo5 : Vec F S6x256 .f32) (y : S32x18432.Idx) :
    ∃ pc ∈ (kernelRun0_B c i arg1 harg1 arg2 harg2 arg3 harg3 arg4 harg4 arg5 harg5 arg6 harg6 arg7 harg7 hc0 x0 x1 x2 x3 fs0 xo5).1, y ∈ pc.1.set :=
  View.cover_of_tiledL (kernelRun0_B c i arg1 harg1 arg2 harg2 arg3 harg3 arg4 harg4 arg5 harg5 arg6 harg6 arg7 harg7 hc0 x0 x1 x2 x3 fs0 xo5).1 S32x128.size (by sl_kernel_rfl) y

/-- What case B leaves in output 4's staging buffer: its pieces read back over junk. -/
def out0_B_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (xo5 : Vec F S6x256 .f32) : Vec F S32x18432 .fp8e5m2 :=
  VO0_4.read (Elt F) (VO0_4.writes (Elt F) VO0_4.junk (kernelRun0_B c i arg1 harg1 arg2 harg2 arg3 harg3 arg4 harg4 arg5 harg5 arg6 harg6 arg7 harg7 hc0 x0 x1 x2 x3 arg7.view.junk xo5).1)

/-- What case B leaves in output 5's staging buffer: its stores read back over what the point before left there (they do not cover the block). -/
def out0_B_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (xo5 : Vec F S6x256 .f32) : Vec F S6x256 .f32 :=
  arg6.view.read (Elt F) (arg6.view.writes (Elt F) (harg6.unread xo5) (kernelRun0_B c i arg1 harg1 arg2 harg2 arg3 harg3 arg4 harg4 arg5 harg5 arg6 harg6 arg7 harg7 hc0 x0 x1 x2 x3 arg7.view.junk xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x18432 .fp8e5m2 × Vec F S6x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 48 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 48 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

end Cert.Kernel.Body

end
-- ==== Proof.KernelFrame.lean ====
/- The proof data of the pipeline, the body obligation, the run of the program and its frame claim. -/
module

public import proofs.«01_k».proof.Proof.KernelPieces
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 48 = 0) (d) :
    (dats m 0 c).before 5 t d = (outsAt0 m c (t.val - 1) (Nat.lt_of_le_of_lt (Nat.sub_le _ _) t.isLt)).2 := by
  have hN : t.val < 48 := lt_of_lt_of_eq t.isLt (show cfg0.N = 48 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 48 := lt_of_lt_of_eq t.isLt (show cfg0.N = 48 from N_0)
  by_cases h0 : t.val % 48 = 0
  · rw [outsAt0_A m c t h0]
    unfold out0_A_4 out0_A_5; (try dsimp only)
    iintro ⟨⟨⟨%fs0, HS0⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t) (iblk m c 3 t) fs0).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [pieces4_A c _ _ _ _ _ _ _ _ _ _ _ _ _ _ _ _ _ _ _ _ fs0 scM0_0.view.junk]; exact View.read_writes_of_cover _ _ _ _ _ (cover0_A_4 c _ _ _ _ _ _ _ _ _ _ _ _ _ _ _ _ _ _ _ _ _)
    unfold owns; iexists _; isplitr
    swap; · iexact H5
    ipureintro; rw [pieces5_A c _ _ _ _ _ _ _ _ _ _ _ _ _ _ _ _ _ _ _ _ fs0 scM0_0.view.junk]; exact View.read_writes_of_cover _ _ _ _ _ (cover0_A_5 c _ _ _ _ _ _ _ _ _ _ _ _ _ _ _ _ _ _ _ _ _)
  · rw [outsAt0_B m c t h0]
    simp only [before0_5_B m c t h0]
    unfold out0_B_4 out0_B_5; (try dsimp only)
    iintro ⟨⟨⟨%fs0, HS0⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) fs0 _).2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [pieces4_B c _ _ _ _ _ _ _ _ _ _ _ _ _ _ _ _ _ _ _ _ fs0 scM0_0.view.junk]; exact View.read_writes_of_cover _ _ _ _ _ (cover0_B_4 c _ _ _ _ _ _ _ _ _ _ _ _ _ _ _ _ _ _ _ _ _ _)
    unfold owns; iexists _; isplitr
    swap; · iexact H5
    ipureintro; rw [pieces5_B c _ _ _ _ _ _ _ _ _ _ _ _ _ _ _ _ _ _ _ _ fs0 scM0_0.view.junk]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Body

end
-- ==== Proof.KernelIdealShared.lean ====
/- Shared definitions of the runs of the kernel body: the branch condition in closed form, the staging memrefs, the scratch. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-! ## The kernel body on any staging memrefs: a subtype the run finds -/

/-- One staging buffer of output window 4, through which its contents are stated (`View.read_writes_of_cover`: the
    choice does not matter). -/
abbrev VO0_4 : View sig .tc .vmem S32x18432 .fp8e5m2 := (Memref.whole cc0_stg4_0 : Memref sig .tc .vmem S32x18432 .fp8e5m2).view
/-- One staging buffer of output window 5, through which its contents are stated (`View.read_writes_of_cover`: the
    choice does not matter). -/
abbrev VO0_5 : View sig .tc .vmem S6x256 .f32 := (Memref.whole cc0_stg5_0 : Memref sig .tc .vmem S6x256 .f32).view
/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18432 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x18432 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S32x18432 .f32 := Memref.whole cc0_scratch0

/-- The frame kit's invariant with the scratch operand held at some contents: what the body obligation hands the run and
    takes back. -/
theorem PhiA0_eq (c : Dev nD) :
    (Pipeline.ΦA spec0 c : sProp 𝕄)
      = iprop(iprop(∃ f, scM0_0.view.loc (c : Thread nD τ) ↦[scM0_0.view.set]{fullShare} f) ∗ (∃ r, prngReg c r)) := by
  unfold Pipeline.ΦA; rw [scopedRest0_eq]; simp only [scM0_0, Memref.view_whole, View.set_whole]; try rfl

/-- Stores that cover a whole buffer leave the same contents whatever it held before. -/
theorem writes_base_eq {sp : Space} {sh : Shape} {e : EltTy} {a : Memref sig .tc sp sh e} (ha : a.IsWhole)
    (f f' : a.view.ty.Contents (Elt F)) (L : List (View.Piece (Elt F) sh e)) (h : ∀ y, ∃ p ∈ L, y ∈ p.1.set) :
    a.view.writes (Elt F) f L = a.view.writes (Elt F) f' L := by
  rw [ha.eq_unread (View.read_writes_of_cover a.view f a.view f' L h)]
  exact (ha.eq_unread rfl).symm

/-- The lane half the scales of the rows of grid point `i` lie in: `0` or `128`, in closed form — checked at each of the
    48 points. -/
theorem k0_off1_eq (i : grid0.Coords) : k0_off1 i = ![0, 128 * ((i 0).val / 4 % 2)] := by
  have h : ∀ n : Fin 48, k0_off1 (fun | ⟨0, _⟩ => n) = ![0, 128 * (n.val / 4 % 2)] := by decide +kernel
  have e : i = fun | ⟨0, _⟩ => i 0 := by
    funext a
    match a with
    | ⟨0, _⟩ => rfl
  rw [e]; exact h (i 0)
instance (i : grid0.Coords) : ClosedOff (k0_off1 i) := ⟨![0, 128 * ((i 0).val / 4 % 2)], k0_off1_eq i⟩

end Cert.KernelIdeal.Body

end
-- ==== Proof.KernelIdealRunA.lean ====
/- The run of the kernel body at the first grid point. -/
module

public import proofs.«01_k».proof.Proof.KernelIdealShared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the scratch buffer at `fs0`, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) :
    Σ' (L4 : List (View.Piece (Elt F) S32x18432 .fp8e5m2)), { L5 : List (View.Piece (Elt F) S6x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (arg7.view.loc (c : Thread nD τ) ↦[arg7.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} f)) -∗ K ⟨⟩))
          ⊢ wp frame (wpE (defs₀ (F := F)) Variants.none c none) E (cc0_philox_dropout_bwd i arg1 harg1 arg2 harg2 arg3 harg3 arg4 harg4 arg5 harg5 arg6 harg6 arg7 harg7) K } := by
  refine ⟨?_, ?_, fun E K => ?run⟩
  case run =>
    simp only [cc0_philox_dropout_bwd_eq_skeleton]; unfold cc0_philox_dropout_bwd_skel
    simp only [k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, HS0, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Body

end
-- ==== Proof.KernelIdealRunB.lean ====
/- The run of the kernel body at a later grid point. -/
module

public import proofs.«01_k».proof.Proof.KernelIdealRunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 47: 47 of 48), WITH the
    proof that on whole staging memrefs — the inputs' at their contents, the outputs it reads before covering (5) at their running contents `xo·`, the other outputs' at
    anything, the scratch buffer at `fs0`, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 : BufTy.Contents (Elt F) arg7.view.ty) (xo5 : Vec F S6x256 .f32) :
    Σ' (L4 : List (View.Piece (Elt F) S32x18432 .fp8e5m2)), { L5 : List (View.Piece (Elt F) S6x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ (arg7.view.loc (c : Thread nD τ) ↦[arg7.view.set]{fullShare} fs0)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xo5) L5) ∗ (∃ f, arg7.view.loc (c : Thread nD τ) ↦[arg7.view.set]{fullShare} f)) -∗ K ⟨⟩))
          ⊢ wp frame (wpE (defs₀ (F := F)) Variants.none c none) E (cc0_philox_dropout_bwd i arg1 harg1 arg2 harg2 arg3 harg3 arg4 harg4 arg5 harg5 arg6 harg6 arg7 harg7) K } := by
  refine ⟨?_, ?_, fun E K => ?run⟩
  case run =>
    simp only [cc0_philox_dropout_bwd_eq_skeleton]; unfold cc0_philox_dropout_bwd_skel
    simp only [k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, HS0, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexact H5
    iexists _; iexact HS0

end Cert.KernelIdeal.Body

end
-- ==== Proof.KernelIdealPieces.lean ====
/- What the runs leave in the output blocks, by name. -/
module

public import proofs.«01_k».proof.Proof.KernelIdealRunB
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In case A the pieces of output 4 do not depend on what the scratch held before: the first loop covers it. -/
theorem pieces4_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 fs1 : BufTy.Contents (Elt F) arg7.view.ty) :
    (kernelRun0_A c i arg1 harg1 arg2 harg2 arg3 harg3 arg4 harg4 arg5 harg5 arg6 harg6 arg7 harg7 hc0 x0 x1 x2 x3 fs0).1 = (kernelRun0_A c i arg1 harg1 arg2 harg2 arg3 harg3 arg4 harg4 arg5 harg5 arg6 harg6 arg7 harg7 hc0 x0 x1 x2 x3 fs1).1 := by
  dsimp only [kernelRun0_A]
  rw [writes_base_eq harg7 fs0 fs1 _ (View.cover_of_tiledL _ S32x128.size (by sl_kernel_rfl))]

/-- In case B the pieces of output 4 do not depend on what the scratch held before: the first loop covers it. -/
theorem pieces4_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 fs1 : BufTy.Contents (Elt F) arg7.view.ty) (xo5 : Vec F S6x256 .f32) :
    (kernelRun0_B c i arg1 harg1 arg2 harg2 arg3 harg3 arg4 harg4 arg5 harg5 arg6 harg6 arg7 harg7 hc0 x0 x1 x2 x3 fs0 xo5).1 = (kernelRun0_B c i arg1 harg1 arg2 harg2 arg3 harg3 arg4 harg4 arg5 harg5 arg6 harg6 arg7 harg7 hc0 x0 x1 x2 x3 fs1 xo5).1 := by
  dsimp only [kernelRun0_B]
  rw [writes_base_eq harg7 fs0 fs1 _ (View.cover_of_tiledL _ S32x128.size (by sl_kernel_rfl))]

/-- In case A the pieces of output 5 do not depend on what the scratch held before. -/
theorem pieces5_A (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 fs1 : BufTy.Contents (Elt F) arg7.view.ty) :
    (kernelRun0_A c i arg1 harg1 arg2 harg2 arg3 harg3 arg4 harg4 arg5 harg5 arg6 harg6 arg7 harg7 hc0 x0 x1 x2 x3 fs0).2.1 = (kernelRun0_A c i arg1 harg1 arg2 harg2 arg3 harg3 arg4 harg4 arg5 harg5 arg6 harg6 arg7 harg7 hc0 x0 x1 x2 x3 fs1).2.1 := by
  dsimp only [kernelRun0_A]

/-- In case B the pieces of output 5 do not depend on what the scratch held before. -/
theorem pieces5_B (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 fs1 : BufTy.Contents (Elt F) arg7.view.ty) (xo5 : Vec F S6x256 .f32) :
    (kernelRun0_B c i arg1 harg1 arg2 harg2 arg3 harg3 arg4 harg4 arg5 harg5 arg6 harg6 arg7 harg7 hc0 x0 x1 x2 x3 fs0 xo5).2.1 = (kernelRun0_B c i arg1 harg1 arg2 harg2 arg3 harg3 arg4 harg4 arg5 harg5 arg6 harg6 arg7 harg7 hc0 x0 x1 x2 x3 fs1 xo5).2.1 := by
  dsimp only [kernelRun0_B]

/-- Case A's pieces for output 4 tile its block (144 stores of `S32x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) (y : S32x18432.Idx) :
    ∃ pc ∈ (kernelRun0_A c i arg1 harg1 arg2 harg2 arg3 harg3 arg4 harg4 arg5 harg5 arg6 harg6 arg7 harg7 hc0 x0 x1 x2 x3 fs0).1, y ∈ pc.1.set :=
  View.cover_of_tiledL (kernelRun0_A c i arg1 harg1 arg2 harg2 arg3 harg3 arg4 harg4 arg5 harg5 arg6 harg6 arg7 harg7 hc0 x0 x1 x2 x3 fs0).1 S32x128.size (by sl_kernel_rfl) y

/-- What case A leaves in output 4's staging buffer: its pieces read back over junk. -/
def out0_A_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) : Vec F S32x18432 .fp8e5m2 :=
  VO0_4.read (Elt F) (VO0_4.writes (Elt F) VO0_4.junk (kernelRun0_A c i arg1 harg1 arg2 harg2 arg3 harg3 arg4 harg4 arg5 harg5 arg6 harg6 arg7 harg7 hc0 x0 x1 x2 x3 arg7.view.junk).1)

/-- Case A's pieces for output 5 are two, the second of which (the zeros of the first point) is the whole block: so they cover it. -/
theorem cover0_A_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) (fs0 : BufTy.Contents (Elt F) arg7.view.ty) (y : S6x256.Idx) :
    ∃ pc ∈ (kernelRun0_A c i arg1 harg1 arg2 harg2 arg3 harg3 arg4 harg4 arg5 harg5 arg6 harg6 arg7 harg7 hc0 x0 x1 x2 x3 fs0).2.1, y ∈ pc.1.set :=
  ⟨_, List.mem_cons_of_mem _ (List.mem_cons_self ..), View.mem_set_unit_zero (S := S6x256) (by funext a; fin_cases a <;> rfl) (by decide) y⟩

/-- What case A leaves in output 5's staging buffer: its pieces read back over junk. -/
def out0_A_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : cond0_0 i)
    (x0 : Vec F S2 .i32) (x1 : Vec F S6x256 .f32) (x2 : Vec F S32x18432 .fp8e5m2) (x3 : Vec F S32x18432 .bf16) : Vec F S6x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 arg7.view.junk).2.1)

/-- Case B's pieces for output 4 tile its block (144 stores of `S32x128`, checked by the kernel's evaluation: Lib/Ring.lean `Piece.tiledL`, linear in the pieces, through a loop's `@[irreducible]` trip theorem too), so they cover it. -/
theorem cover0_B_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (fs0 : BufTy.Contents (Elt F) arg7.view.ty) (xo5 : Vec F S6x256 .f32) (y : S32x18432.Idx) :
    ∃ pc ∈ (kernelRun0_B c i arg1 harg1 arg2 harg2 arg3 harg3 arg4 harg4 arg5 harg5 arg6 harg6 arg7 harg7 hc0 x0 x1 x2 x3 fs0 xo5).1, y ∈ pc.1.set :=
  View.cover_of_tiledL (kernelRun0_B c i arg1 harg1 arg2 harg2 arg3 harg3 arg4 harg4 arg5 harg5 arg6 harg6 arg7 harg7 hc0 x0 x1 x2 x3 fs0 xo5).1 S32x128.size (by sl_kernel_rfl) y

/-- What case B leaves in output 4's staging buffer: its pieces read back over junk. -/
def out0_B_4 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (xo5 : Vec F S6x256 .f32) : Vec F S32x18432 .fp8e5m2 :=
  VO0_4.read (Elt F) (VO0_4.writes (Elt F) VO0_4.junk (kernelRun0_B c i arg1 harg1 arg2 harg2 arg3 harg3 arg4 harg4 arg5 harg5 arg6 harg6 arg7 harg7 hc0 x0 x1 x2 x3 arg7.view.junk xo5).1)

/-- What case B leaves in output 5's staging buffer: its stores read back over what the point before left there (they do not cover the block). -/
def out0_B_5 (c : Dev nD) (i : grid0.Coords) (arg1 : Memref sig .tc .smem S2 .i32) (harg1 : arg1.IsWhole) (arg2 : Memref sig .tc .vmem S6x256 .f32) (harg2 : arg2.IsWhole) (arg3 : Memref sig .tc .vmem S32x18432 .fp8e5m2) (harg3 : arg3.IsWhole) (arg4 : Memref sig .tc .vmem S32x18432 .bf16) (harg4 : arg4.IsWhole) (arg5 : Memref sig .tc .vmem S32x18432 .fp8e5m2) (harg5 : arg5.IsWhole) (arg6 : Memref sig .tc .vmem S6x256 .f32) (harg6 : arg6.IsWhole) (arg7 : Memref sig .tc .vmem S32x18432 .f32) (harg7 : arg7.IsWhole) (hc0 : ¬cond0_0 i)
    (x0 : Vec F S2 .i32) (x1 : Vec F S6x256 .f32) (x2 : Vec F S32x18432 .fp8e5m2) (x3 : Vec F S32x18432 .bf16) (xo5 : Vec F S6x256 .f32) : Vec F S6x256 .f32 :=
  arg6.view.read (Elt F) (arg6.view.writes (Elt F) (harg6.unread xo5) (kernelRun0_B c i arg1 harg1 arg2 harg2 arg3 harg3 arg4 harg4 arg5 harg5 arg6 harg6 arg7 harg7 hc0 x0 x1 x2 x3 arg7.view.junk xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x18432 .fp8e5m2 × Vec F S6x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 48 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 48 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2 := by dsimp only [dats]

end Cert.KernelIdeal.Body

end
-- ==== Proof.KernelIdealFrame.lean ====
/- The proof data of the pipeline, the body obligation, the run of the program and its frame claim. -/
module

public import proofs.«01_k».proof.Proof.KernelIdealPieces
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 48 = 0) (d) :
    (dats m 0 c).before 5 t d = (outsAt0 m c (t.val - 1) (Nat.lt_of_le_of_lt (Nat.sub_le _ _) t.isLt)).2 := by
  have hN : t.val < 48 := lt_of_lt_of_eq t.isLt (show cfg0.N = 48 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 48 := lt_of_lt_of_eq t.isLt (show cfg0.N = 48 from N_0)
  by_cases h0 : t.val % 48 = 0
  · rw [outsAt0_A m c t h0]
    unfold out0_A_4 out0_A_5; (try dsimp only)
    iintro ⟨⟨⟨%fs0, HS0⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t) (iblk m c 3 t) fs0).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [pieces4_A c _ _ _ _ _ _ _ _ _ _ _ _ _ _ _ _ _ _ _ _ fs0 scM0_0.view.junk]; exact View.read_writes_of_cover _ _ _ _ _ (cover0_A_4 c _ _ _ _ _ _ _ _ _ _ _ _ _ _ _ _ _ _ _ _ _)
    unfold owns; iexists _; isplitr
    swap; · iexact H5
    ipureintro; rw [pieces5_A c _ _ _ _ _ _ _ _ _ _ _ _ _ _ _ _ _ _ _ _ fs0 scM0_0.view.junk]; exact View.read_writes_of_cover _ _ _ _ _ (cover0_A_5 c _ _ _ _ _ _ _ _ _ _ _ _ _ _ _ _ _ _ _ _ _)
  · rw [outsAt0_B m c t h0]
    simp only [before0_5_B m c t h0]
    unfold out0_B_4 out0_B_5; (try dsimp only)
    iintro ⟨⟨⟨%fs0, HS0⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) fs0 _).2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%e4, H4⟩, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; rw [pieces4_B c _ _ _ _ _ _ _ _ _ _ _ _ _ _ _ _ _ _ _ _ fs0 scM0_0.view.junk]; exact View.read_writes_of_cover _ _ _ _ _ (cover0_B_4 c _ _ _ _ _ _ _ _ _ _ _ _ _ _ _ _ _ _ _ _ _ _)
    unfold owns; iexists _; isplitr
    swap; · iexact H5
    ipureintro; rw [pieces5_B c _ _ _ _ _ _ _ _ _ _ _ _ _ _ _ _ _ _ _ _ fs0 scM0_0.view.junk]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.ReferenceRun.lean ====
/- The run of the reference: its loop of rounds by an invariant, and what it stores. -/
module

public import proofs.«01_k».proof.Proof.Gen.ReferenceIdeal.Skeleton
public import proofs.«01_k».proof.Proof.Gen.ReferenceIdeal.Frame
public import Idealize.ShloMosaic.Lib.Exec
public import Idealize.ShloMosaic.Lib.Tactic
public import Idealize.ShloMosaic.Lib.Pipeline.Kit

@[expose] public section

set_option maxRecDepth 16384

noncomputable section

namespace Cert.ReferenceIdeal.Body

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the loop of the reference carries: the four counter words of every quad and the two key words. -/
abbrev PState := IVec S6x256x4608 32 × IVec S6x256x4608 32 × IVec S6x256x4608 32 × IVec S6x256x4608 32 × BitVec 32 × BitVec 32

/-- One round of the generator on all quads at once, as the loop's trip computes it. -/
def rnd (s : PState) : PState :=
  (k0_pay9 (F := F) s.2.1 s.2.2.1 s.2.2.2.2.1 52638#32 36183#32 (k0_pay6 s.2.2.1) 65535#32,
    k0_pay5 s.2.2.1, k0_pay10 (F := F) s.2.2.2.1 s.2.2.2.2.2 (k0_pay4 s.1), k0_pay3 s.1,
    Scalar.addi s.2.2.2.2.1 2654435769#32, Scalar.addi s.2.2.2.2.2 3144134277#32)

set_option warn.classDefReducibility false in
/-- The loop of the reference by its invariant: before trip `k` it carries `k` rounds of the generator. -/
@[sl_loop] def loopInv_k0_t1 (𝒱 : Variants) (c : Dev nD) (bd : Option 𝒱.V) (E : Set ℕ) (arg0 : Memref sig .tc .vmem S6x256x18432 .fp8e5m2) (harg0 : arg0.IsWhole) (arg1 : Memref sig .tc .vmem S6x256 .f32) (harg1 : arg1.IsWhole) (arg2 : Memref sig .tc .smem S2 .i32) (harg2 : arg2.IsWhole) (arg3 : Memref sig .tc .vmem S6x256x18432 .bf16) (harg3 : arg3.IsWhole) (arg4 : Memref sig .tc .vmem S6x256x18432 .fp8e5m2) (harg4 : arg4.IsWhole) (arg5 : Memref sig .tc .vmem S6x256 .f32) (harg5 : arg5.IsWhole) (init : PState) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init (k0_t1_body (F := F) arg0 harg0 arg1 harg1 arg2 harg2 arg3 harg3 arg4 harg4 arg5 harg5) where
  inv k acc := iprop(⌜acc = (rnd (F := F))^[k] init⌝)
  step k acc := by
    obtain ⟨a7, a8, a9, a10, a11, a12⟩ := acc
    iintro %h
    unfold k0_t1_body
    simp only [k0_part1_eq_skeleton]
    sl_exec
    sl_step
    ipureintro
    rw [Function.iterate_succ_apply', ← h]
    rfl

/-- What the reference stores, as pieces, WITH the run of its body on whole staging memrefs. -/
noncomputable def refRun (c : Dev nD) (arg0 : Memref sig .tc .vmem S6x256x18432 .fp8e5m2) (harg0 : arg0.IsWhole) (arg1 : Memref sig .tc .vmem S6x256 .f32) (harg1 : arg1.IsWhole) (arg2 : Memref sig .tc .smem S2 .i32) (harg2 : arg2.IsWhole) (arg3 : Memref sig .tc .vmem S6x256x18432 .bf16) (harg3 : arg3.IsWhole) (arg4 : Memref sig .tc .vmem S6x256x18432 .fp8e5m2) (harg4 : arg4.IsWhole) (arg5 : Memref sig .tc .vmem S6x256 .f32) (harg5 : arg5.IsWhole)
    (x0 : Vec F S6x256x18432 .fp8e5m2) (x1 : Vec F S6x256 .f32) (x2 : Vec F S2 .i32) (x3 : Vec F S6x256x18432 .bf16) :
    Σ' (L4 : List (View.Piece (Elt F) S6x256x18432 .fp8e5m2)), { L5 : List (View.Piece (Elt F) S6x256 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0_reference arg0 harg0 arg1 harg1 arg2 harg2 arg3 harg3 arg4 harg4 arg5 harg5) K } := by
  refine ⟨?_, ?_, fun E K => ?run⟩
  case run =>
    simp only [cc0_reference_eq_skeleton]; unfold cc0_reference_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.ReferenceIdeal.Body

end
-- ==== Proof.ReferenceFrame.lean ====
/- The proof data of the reference, the run of the program and its frame claim. -/
module

public import proofs.«01_k».proof.Proof.ReferenceRun
public import Idealize.ShloMosaic.Lib.Claim
public import Idealize.ShloMosaic.Lib.Pipeline.Value

@[expose] public section

set_option maxRecDepth 16384

noncomputable section

namespace Cert.ReferenceIdeal.Body

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the reference leaves in the block of its first result (the codes), -/
def out4 (c : Dev nD) (t : Fin cfg0.N) : Vec F S6x256x18432 .fp8e5m2 :=
  (win0_4.stage (cfg0.slots t 4)).view.read (Elt F) ((win0_4.stage (cfg0.slots t 4)).view.writes (Elt F) (win0_4.stage (cfg0.slots t 4)).view.junk (refRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (iblk m c 0 t) (iblk m c 1 t) (iblk m c 2 t) (iblk m c 3 t)).1)
/-- and of its second (the scales). -/
def out5 (c : Dev nD) (t : Fin cfg0.N) : Vec F S6x256 .f32 :=
  (win0_5.stage (cfg0.slots t 5)).view.read (Elt F) ((win0_5.stage (cfg0.slots t 5)).view.writes (Elt F) (win0_5.stage (cfg0.slots t 5)).view.junk (refRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (iblk m c 0 t) (iblk m c 1 t) (iblk m c 2 t) (iblk m c 3 t)).2.1)

/-- The one store of each result is the whole block. -/
theorem cover4 (c : Dev nD) (arg0 : Memref sig .tc .vmem S6x256x18432 .fp8e5m2) (harg0 : arg0.IsWhole) (arg1 : Memref sig .tc .vmem S6x256 .f32) (harg1 : arg1.IsWhole) (arg2 : Memref sig .tc .smem S2 .i32) (harg2 : arg2.IsWhole) (arg3 : Memref sig .tc .vmem S6x256x18432 .bf16) (harg3 : arg3.IsWhole) (arg4 : Memref sig .tc .vmem S6x256x18432 .fp8e5m2) (harg4 : arg4.IsWhole) (arg5 : Memref sig .tc .vmem S6x256 .f32) (harg5 : arg5.IsWhole)
    (x0 : Vec F S6x256x18432 .fp8e5m2) (x1 : Vec F S6x256 .f32) (x2 : Vec F S2 .i32) (x3 : Vec F S6x256x18432 .bf16) (y : S6x256x18432.Idx) :
    ∃ p ∈ (refRun c arg0 harg0 arg1 harg1 arg2 harg2 arg3 harg3 arg4 harg4 arg5 harg5 x0 x1 x2 x3).1, y ∈ p.1.set :=
  ⟨_, List.mem_cons_self .., View.mem_set_unit_zero (S := S6x256x18432) (by funext a; fin_cases a <;> rfl) (by decide) y⟩
theorem cover5 (c : Dev nD) (arg0 : Memref sig .tc .vmem S6x256x18432 .fp8e5m2) (harg0 : arg0.IsWhole) (arg1 : Memref sig .tc .vmem S6x256 .f32) (harg1 : arg1.IsWhole) (arg2 : Memref sig .tc .smem S2 .i32) (harg2 : arg2.IsWhole) (arg3 : Memref sig .tc .vmem S6x256x18432 .bf16) (harg3 : arg3.IsWhole) (arg4 : Memref sig .tc .vmem S6x256x18432 .fp8e5m2) (harg4 : arg4.IsWhole) (arg5 : Memref sig .tc .vmem S6x256 .f32) (harg5 : arg5.IsWhole)
    (x0 : Vec F S6x256x18432 .fp8e5m2) (x1 : Vec F S6x256 .f32) (x2 : Vec F S2 .i32) (x3 : Vec F S6x256x18432 .bf16) (y : S6x256.Idx) :
    ∃ p ∈ (refRun c arg0 harg0 arg1 harg1 arg2 harg2 arg3 harg3 arg4 harg4 arg5 harg5 x0 x1 x2 x3).2.1, y ∈ p.1.set :=
  ⟨_, List.mem_cons_self .., View.mem_set_unit_zero (S := S6x256) (by funext a; fin_cases a <;> rfl) (by decide) y⟩

/-- The proof data of the one region: the arrays as the region finds them, the inputs' blocks left in place, the
    results at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 800000 in
/-- The body at the one point: the inputs' memrefs hold their blocks, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold out4 out5
  iintro ⟨HΦ, Ho, ⟨%d0, H0⟩, ⟨%d1, H1⟩, ⟨%d2, H2⟩, ⟨%d3, H3⟩, ⟨%d4, H4⟩, ⟨%d5, H5⟩⟩
  iapply ((refRun c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _)
  unfold owns; iexists _; isplitr
  swap; · iexact H5
  ipureintro; exact View.read_writes_of_cover _ _ _ _ _ (cover5 c _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ReferenceIdeal`'s statement (Defs.lean) at any `F` — Proof.lean cites it at `Bits`:
    `theorem Cert.Proof.claim : Cert.Claim := ⟨Cert.ReferenceIdeal.Gen.facts, fun m ρ _ => Cert.ReferenceIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ReferenceIdeal.Body

end
-- ==== Proof.TripValue.lean ====
/- What one trip of the kernel's first loop computes, written with vector operations. -/
module

public import proofs.«01_k».proof.Proof.Gen.KernelIdeal.Loops

@[expose] public section

set_option maxRecDepth 16384

noncomputable section

namespace Cert.KernelIdeal.Value

open Cert.KernelIdeal.Gen Cert.KernelIdeal
open Idealize.ShloMosaic Idealize.ShloMosaic.TcCoe Idealize.ShloMosaic.Tactic
open Idealize.SL Idealize.SL.Sem

variable {F : FTy → Type} [FloatOps F]

/-- A vector of 8 × 128 words. -/
abbrev V := IVec S8x128 32

/-- One word, repeated. -/
abbrev bc (x : BitVec 32) : V := broadcast S8x128 x

/-- The high word of the product by 0xD2511F53, as the kernel computes it. -/
def hi0V (c : V) : V :=
  addi (muli (bc 53841#32) (shrui c (bc 16#32)))
    (shrui (addi (muli (bc 53841#32) (andi c (bc 65535#32)))
      (addi (muli (bc 8019#32) (shrui c (bc 16#32)))
        (shrui (muli (bc 8019#32) (andi c (bc 65535#32))) (bc 16#32)))) (bc 16#32))

/-- The low word of the product by 0xD2511F53. -/
def lo0V (c : V) : V := muli (bc 3528531795#32) c

/-- The high word of the product by 0xCD9E8D57, as the kernel computes it. -/
def hi1V (c : V) : V :=
  addi (muli (bc 52638#32) (shrui c (bc 16#32)))
    (shrui (addi (muli (bc 26319#32) (andi c (bc 65535#32)))
      (shrui (addi (muli (bc 36183#32) (shrui c (bc 16#32)))
        (shrui (muli (bc 36183#32) (andi c (bc 65535#32))) (bc 16#32))) (bc 1#32))) (bc 15#32))

/-- The low word of the product by 0xCD9E8D57. -/
def lo1V (c : V) : V := muli (bc 3449720151#32) c

/-- Four words of each lane. -/
abbrev V4 := V × V × V × V

/-- One round with the keys `a` and `b`. -/
def roundV (a b : BitVec 32) (s : V4) : V4 :=
  (xori (xori (hi1V s.2.2.1) s.2.1) (bc a), lo1V s.2.2.1, xori (xori (hi0V s.1) s.2.2.2) (bc b), lo0V s.1)

/-- The state after the kernel's first three rounds, whose constant words it folds away. -/
def firstV (k4 k5 k6 k7 k8 p q : BitVec 32) (c : V) : V4 :=
  (xori (xori (hi1V (xori (lo0V c) (bc (Scalar.xori p k6)))) (lo1V (xori (hi0V c) (bc k4)))) (bc k7),
   lo1V (xori (lo0V c) (bc (Scalar.xori p k6))),
   xori (hi0V (xori (hi1V (xori (hi0V c) (bc k4))) (bc k5))) (bc (Scalar.xori q k8)),
   lo0V (xori (hi1V (xori (hi0V c) (bc k4))) (bc k5)))

/-- The keys of the ten rounds, with the product of the first key. -/
structure Keys where
  (k4 k5 k6 k7 k8 k9 k10 k11 k12 k13 k14 k15 k16 k17 k18 k19 k20 k21 k22 p q : BitVec 32)

/-- The four words of the counter `c`. -/
def philoxV (K : Keys) (c : V) : V4 :=
  roundV K.k21 K.k22 (roundV K.k19 K.k20 (roundV K.k17 K.k18 (roundV K.k15 K.k16 (roundV K.k13 K.k14
    (roundV K.k11 K.k12 (roundV K.k9 K.k10 (firstV K.k4 K.k5 K.k6 K.k7 K.k8 K.p K.q c)))))))

/-- The bit `b` where the word is at least the threshold. -/
def bitV (w : V) (b : BitVec 32) : V := select (cmpi .uge w (bc 429496730#32)) (bc b) (bc 0#32)

/-- The counters of group `off / 36864` in the trip whose first counter is `j`. -/
def cntV (q0 : V) (j off : BitVec 32) : V := addi q0 (bc (Scalar.addi off (Scalar.muli j 128#32)))

/-- The sixteen bits of each lane. -/
def packedV (K : Keys) (q0 : V) (j : BitVec 32) : V :=
  let A := philoxV K (cntV q0 j 0#32)
  let B := philoxV K (cntV q0 j 36864#32)
  let C := philoxV K (cntV q0 j 73728#32)
  let D := philoxV K (cntV q0 j 110592#32)
  ori (ori (ori (ori (ori (ori (ori (ori (ori (ori (ori (ori (ori (ori (ori (bitV A.1 1#32) (bitV A.2.1 2#32))
    (bitV A.2.2.1 4#32)) (bitV A.2.2.2 8#32)) (bitV B.1 16#32)) (bitV B.2.1 32#32)) (bitV B.2.2.1 64#32))
    (bitV B.2.2.2 128#32)) (bitV C.1 256#32)) (bitV C.2.1 512#32)) (bitV C.2.2.1 1024#32)) (bitV C.2.2.2 2048#32))
    (bitV D.1 4096#32)) (bitV D.2.1 8192#32)) (bitV D.2.2.1 16384#32)) (bitV D.2.2.2 32768#32)

/-- The lane that the mask of piece `off / 32` is taken from. -/
def laneV (lane : V) (off : BitVec 32) : V :=
  let d := divsi lane (bc 4#32)
  let s := subi (extui 32 (cmpi .sgt lane (bc 0#32)) natLt_1_32) (extui 32 (cmpi .slt lane (bc 0#32)) natLt_1_32)
  let x := addi (select (andi (cmpi .ne s (bc (Scalar.subi (Scalar.extui (Scalar.cmpi .sgt 4#32 0#32))
    (Scalar.extui (Scalar.cmpi .slt 4#32 0#32))))) (cmpi .ne (remsi lane (bc 4#32)) (bc 0#32))) (subi d (bc 1#32)) d) (bc off)
  select (cmpi .slt x (bc 0#32)) (addi x (bc 128#32)) x

/-- The sixteen bits, moved to the lanes of piece `off / 32`. -/
def bitsV (lane packed : V) (off : BitVec 32) : V :=
  dynamicGather 1 packed
    (shapeCast S8x128 (shapeCast S8x128x1 (laneV lane off) shapeCasts_S8x128_S8x128x1) shapeCasts_S8x128x1_S8x128)

/-- The bit of a lane's word in group `off / 4`. -/
def maskV (lanew bits : V) (off : BitVec 32) : V := andi bits (shli (bc 1#32) (addi lanew (bc off)))

/-- The piece's mask over the 32 rows. -/
def keepV (lanew bits : V) : IVec S32x128 1 :=
  cmpi .ne (concatenate S32x128 0 [⟨S8x128, maskV lanew bits 0#32⟩, ⟨S8x128, maskV lanew bits 4#32⟩,
    ⟨S8x128, maskV lanew bits 8#32⟩, ⟨S8x128, maskV lanew bits 12#32⟩]
    concatenates_S8x128_S8x128_S8x128_S8x128_S32x128_d0) (broadcast S32x128 0#32)

/-- The gradient of one piece. -/
def gradV (sc : FVec F S32x128 .f32) (lanew bits : V) (dy : FVec F S32x128 .fp8e5m2) (g : FVec F S32x128 .bf16) :
    FVec F S32x128 .f32 :=
  addf (mulf (mulf (extf .f32 (shapeCast S32x128 dy shapeCasts_S32x128_S32x128) bitsLt_fp8e5m2_f32) sc)
    (select (keepV lanew bits) (broadcast S32x128 (Scalar.ofBits .f32 0x3F8E38E4#32))
      (broadcast S32x128 (Scalar.ofBits .f32 0x00000000#32))))
    (extf .f32 (shapeCast S32x128 g shapeCasts_S32x128_S32x128) bitsLt_bf16_f32)

/-! ## The trip -/

variable (𝒱 : Variants) (c : Dev nD) (bd : Option 𝒱.V) (i : grid0.Coords) (arg1 : Memref sig .tc .smem S2 .i32)
  (harg1 : arg1.IsWhole) (arg2 : Memref sig .tc .vmem S6x256 .f32) (harg2 : arg2.IsWhole) (arg3 : Memref sig .tc
  .vmem S32x18432 .fp8e5m2) (harg3 : arg3.IsWhole) (arg4 : Memref sig .tc .vmem S32x18432 .bf16) (harg4 :
  arg4.IsWhole) (arg5 : Memref sig .tc .vmem S32x18432 .fp8e5m2) (harg5 : arg5.IsWhole) (arg6 : Memref sig .tc
  .vmem S6x256 .f32) (harg6 : arg6.IsWhole) (arg7 : Memref sig .tc .vmem S32x18432 .f32) (harg7 : arg7.IsWhole)
  (arg0 : BitVec 32) (v4 : Elt F .i32) (v5 : BitVec 32) (v6 : BitVec 32) (v7 : BitVec 32) (v8 : BitVec 32) (v9 :
  BitVec 32) (v10 : BitVec 32) (v11 : BitVec 32) (v12 : BitVec 32) (v13 : BitVec 32) (v14 : BitVec 32) (v15 :
  BitVec 32) (v16 : BitVec 32) (v17 : BitVec 32) (v18 : BitVec 32) (v19 : BitVec 32) (v20 : BitVec 32) (v21 :
  BitVec 32) (v22 : BitVec 32) (v33 : BitVec 32) (v34 : BitVec 32) (v35 : IVec S8x128 32) (v36 : IVec S8x128 32)
  (v112 : FVec F S32x128 .f32) (X_arg3 : BufTy.Contents (Elt F) arg3.view.ty) (X_arg4 : BufTy.Contents (Elt F)
  arg4.view.ty) (k : Fin k0_t1_loop.trips)

/-- The keys that a trip gets, gathered. -/
abbrev keysOf (v4 v5 v6 v7 v8 v9 v10 v11 v12 v13 v14 v15 v16 v17 v18 v19 v20 v21 v22 v33 v34 : BitVec 32) : Keys :=
  ⟨v4, v5, v6, v7, v8, v9, v10, v11, v12, v13, v14, v15, v16, v17, v18, v19, v20, v21, v22, v33, v34⟩

/-- The gradient of the piece at lanes `col`, `col + 1`, … of the trip's 512 columns. -/
def partV (K : Keys) (arg0 : BitVec 32) (v35 v36 : V) (v112 : FVec F S32x128 .f32) (j off : BitVec 32)
    (dy : FVec F S32x128 .fp8e5m2) (g : FVec F S32x128 .bf16) : FVec F S32x128 .f32 :=
  gradV (k0_pay319 v112) (k0_pay321 v35) (bitsV v35 (packedV K (k0_pay320 arg0 v35 v36) j) off) dy g

/-- The columns of the trip's piece `r`. -/
abbrev cols (k : Fin k0_t1_loop.trips) (r : Fin 4) : Rect S32x18432 :=
  Rect.unit (k0_off2 k (BitVec.ofNat 32 (128 * r.val))) S32x128.size (k0_off2_inb k r)

/-- The gradient of the trip's piece `r`. -/
abbrev partAt (K : Keys) (arg0 : BitVec 32) (v35 v36 : V) (v112 : FVec F S32x128 .f32)
    (arg3 : Memref sig .tc .vmem S32x18432 .fp8e5m2) (arg4 : Memref sig .tc .vmem S32x18432 .bf16)
    (X_arg3 : BufTy.Contents (Elt F) arg3.view.ty) (X_arg4 : BufTy.Contents (Elt F) arg4.view.ty)
    (k : Fin k0_t1_loop.trips) (r : Fin 4) : FVec F S32x128 .f32 :=
  partV K arg0 v35 v36 v112 (Scf.iv 0#32 1#32 k.val) (BitVec.ofNat 32 (32 * r.val))
    (View.readAt (Elt F) arg3.view (cols k r).toLoadRect X_arg3)
    (View.readAt (Elt F) arg4.view (cols k r).toLoadRect X_arg4)

/-- The trip's written piece `r`. -/
abbrev pieceAt (K : Keys) (arg0 : BitVec 32) (v35 v36 : V) (v112 : FVec F S32x128 .f32)
    (arg3 : Memref sig .tc .vmem S32x18432 .fp8e5m2) (arg4 : Memref sig .tc .vmem S32x18432 .bf16)
    (X_arg3 : BufTy.Contents (Elt F) arg3.view.ty) (X_arg4 : BufTy.Contents (Elt F) arg4.view.ty)
    (k : Fin k0_t1_loop.trips) (r : Fin 4) : View.Piece (Elt F) S32x18432 .f32 :=
  ⟨cols k r, shapeCast S32x128 (partAt K arg0 v35 v36 v112 arg3 arg4 X_arg3 X_arg4 k r) shapeCasts_S32x128_S32x128⟩

/-- The sixteen bits of each lane, as the trip computes them. -/
theorem trip_packed :
    trip_k0_t1.sl.v2163 (F := F) arg0 v4 v5 v6 v7 v8 v9 v10 v11 v12 v13 v14 v15 v16 v17 v18 v19 v20 v21 v22 v33 v34 v35 v36 k
      = packedV (keysOf v4 v5 v6 v7 v8 v9 v10 v11 v12 v13 v14 v15 v16 v17 v18 v19 v20 v21 v22 v33 v34)
          (k0_pay320 arg0 v35 v36) (Scf.iv 0#32 1#32 k.val) := by
  sl_kernel_rfl

/-- The pieces that a trip writes to the scratch block, the last first. -/
theorem trip_L (acc : FVec F S32x128 .f32) :
    tripL_k0_t1 (F := F) 𝒱 c bd i arg1 harg1 arg2 harg2 arg3 harg3 arg4 harg4 arg5 harg5 arg6 harg6 arg7 harg7 arg0 v4 v5 v6 v7 v8 v9 v10
      v11 v12 v13 v14 v15 v16 v17 v18 v19 v20 v21 v22 v33 v34 v35 v36 v112 X_arg3 X_arg4 k acc
      = ([3, 2, 1, 0] : List (Fin 4)).map (pieceAt
          (keysOf v4 v5 v6 v7 v8 v9 v10 v11 v12 v13 v14 v15 v16 v17 v18 v19 v20 v21 v22 v33 v34)
          arg0 v35 v36 v112 arg3 arg4 X_arg3 X_arg4 k) := by
  unfold tripL_k0_t1
  rw [trip_k0_t1.eq_1]
  sl_kernel_rfl

/-- The running maximum after a trip. -/
theorem trip_R (acc : FVec F S32x128 .f32) :
    tripR_k0_t1 (F := F) 𝒱 c bd i arg1 harg1 arg2 harg2 arg3 harg3 arg4 harg4 arg5 harg5 arg6 harg6 arg7 harg7 arg0 v4 v5 v6 v7 v8 v9 v10
      v11 v12 v13 v14 v15 v16 v17 v18 v19 v20 v21 v22 v33 v34 v35 v36 v112 X_arg3 X_arg4 k acc
      = ([0, 1, 2, 3] : List (Fin 4)).foldl (fun a r => maximumf a (absf (partAt
          (keysOf v4 v5 v6 v7 v8 v9 v10 v11 v12 v13 v14 v15 v16 v17 v18 v19 v20 v21 v22 v33 v34)
          arg0 v35 v36 v112 arg3 arg4 X_arg3 X_arg4 k r))) acc := by
  unfold tripR_k0_t1
  rw [trip_k0_t1.eq_1]
  sl_kernel_rfl

end Cert.KernelIdeal.Value
-- ==== Proof.Words.lean ====
/- The counter-based generator on words, and what the vector code of the kernel and of the reference does at one index. -/
module

public import proofs.«01_k».proof.Proof.TripValue
public import proofs.«01_k».proof.Proof.ReferenceRun
public import Mathlib.Tactic.Ring
public import Mathlib.Tactic.NormNum

@[expose] public section

set_option maxRecDepth 16384

noncomputable section

namespace Cert.Words

open Idealize.ShloMosaic
open Cert.KernelIdeal (S8x128)
open Cert.KernelIdeal.Value

/-- The high word of the product by 0xD2511F53. -/
def hi0 (c : BitVec 32) : BitVec 32 := BitVec.ofNat 32 (3528531795 * c.toNat / 4294967296)

/-- The high word of the product by 0xCD9E8D57. -/
def hi1 (c : BitVec 32) : BitVec 32 := BitVec.ofNat 32 (3449720151 * c.toNat / 4294967296)

/-- Four words and the two keys. -/
abbrev W6 := BitVec 32 × BitVec 32 × BitVec 32 × BitVec 32 × BitVec 32 × BitVec 32

/-- One round. -/
def step (s : W6) : W6 :=
  (hi1 s.2.2.1 ^^^ s.2.1 ^^^ s.2.2.2.2.1, 3449720151#32 * s.2.2.1, hi0 s.1 ^^^ s.2.2.2.1 ^^^ s.2.2.2.2.2,
    3528531795#32 * s.1, s.2.2.2.2.1 + 2654435769#32, s.2.2.2.2.2 + 3144134277#32)

/-- Ten rounds on the counter `q`, 0, 0, 0. -/
def philox (q k0 k1 : BitVec 32) : W6 := step^[10] (q, 0#32, 0#32, 0#32, k0, k1)

/-- Word `n` of the four. -/
def word (s : W6) : Fin 4 → BitVec 32 := ![s.1, s.2.1, s.2.2.1, s.2.2.2.1]

theorem floor_parts (A B C D : ℕ) :
    (A * 4294967296 + (B + C) * 65536 + D) / 4294967296 = A + (B + (C + D / 65536)) / 65536 := by omega

theorem half_parts (B L : ℕ) : (2 * B + L) / 65536 = (B + L / 2) / 32768 := by omega

theorem hi0_parts (c : BitVec 32) :
    53841#32 * (c >>> 16) + ((53841#32 * (c &&& 65535#32) + (8019#32 * (c >>> 16) +
      ((8019#32 * (c &&& 65535#32)) >>> 16))) >>> 16) = hi0 c := by
  apply BitVec.eq_of_toNat_eq
  have hc := c.isLt
  have h1 : c.toNat &&& 65535 = c.toNat % 65536 := Nat.and_two_pow_sub_one_eq_mod c.toNat 16
  simp only [hi0, BitVec.toNat_add, BitVec.toNat_mul, BitVec.toNat_ushiftRight, BitVec.toNat_and, BitVec.toNat_ofNat,
    Nat.shiftRight_eq_div_pow]
  simp only [Nat.reducePow, Nat.reduceMod]
  rw [h1]
  generalize hh : c.toNat / 65536 = ch
  generalize hl : c.toNat % 65536 = cl
  have hcc : c.toNat = ch * 65536 + cl := by omega
  have hch : ch < 65536 := by omega
  have hcl : cl < 65536 := by omega
  rw [hcc]
  clear hcc hh hl h1 hc
  rw [Nat.mod_eq_of_lt (show 53841 * ch < 4294967296 by omega), Nat.mod_eq_of_lt (show 53841 * cl < 4294967296 by omega),
    Nat.mod_eq_of_lt (show 8019 * ch < 4294967296 by omega), Nat.mod_eq_of_lt (show 8019 * cl < 4294967296 by omega),
    Nat.mod_eq_of_lt (show 8019 * ch + 8019 * cl / 65536 < 4294967296 by omega),
    Nat.mod_eq_of_lt (show 53841 * cl + (8019 * ch + 8019 * cl / 65536) < 4294967296 by omega)]
  congr 1
  rw [show 3528531795 * (ch * 65536 + cl) = (53841 * ch) * 4294967296 + (53841 * cl + 8019 * ch) * 65536 + 8019 * cl by ring,
    floor_parts]

theorem hi1_parts (c : BitVec 32) :
    52638#32 * (c >>> 16) + ((26319#32 * (c &&& 65535#32) + ((36183#32 * (c >>> 16) +
      ((36183#32 * (c &&& 65535#32)) >>> 16)) >>> 1)) >>> 15) = hi1 c := by
  apply BitVec.eq_of_toNat_eq
  have hc := c.isLt
  have h1 : c.toNat &&& 65535 = c.toNat % 65536 := Nat.and_two_pow_sub_one_eq_mod c.toNat 16
  simp only [hi1, BitVec.toNat_add, BitVec.toNat_mul, BitVec.toNat_ushiftRight, BitVec.toNat_and, BitVec.toNat_ofNat,
    Nat.shiftRight_eq_div_pow]
  simp only [Nat.reducePow, Nat.reduceMod]
  rw [h1]
  generalize hh : c.toNat / 65536 = ch
  generalize hl : c.toNat % 65536 = cl
  have hcc : c.toNat = ch * 65536 + cl := by omega
  have hch : ch < 65536 := by omega
  have hcl : cl < 65536 := by omega
  rw [hcc]
  clear hcc hh hl h1 hc
  rw [Nat.mod_eq_of_lt (show 52638 * ch < 4294967296 by omega), Nat.mod_eq_of_lt (show 26319 * cl < 4294967296 by omega),
    Nat.mod_eq_of_lt (show 36183 * ch < 4294967296 by omega), Nat.mod_eq_of_lt (show 36183 * cl < 4294967296 by omega),
    Nat.mod_eq_of_lt (show 36183 * ch + 36183 * cl / 65536 < 4294967296 by omega),
    Nat.mod_eq_of_lt (show 26319 * cl + (36183 * ch + 36183 * cl / 65536) / 2 < 4294967296 by omega)]
  congr 1
  rw [show 3449720151 * (ch * 65536 + cl) = (52638 * ch) * 4294967296 + (2 * (26319 * cl) + 36183 * ch) * 65536 + 36183 * cl by ring,
    floor_parts, half_parts]

/-- The reference's way to the high word of a product by `mh * 65536 + ml`. -/
theorem hi_ref (mh ml : ℕ) (hmh : mh < 65536) (hml : ml < 65536) (c : BitVec 32) :
    (BitVec.ofNat 32 mh * (c >>> 16) + ((BitVec.ofNat 32 ml * (c >>> 16)) >>> 16) + ((BitVec.ofNat 32 mh * (c &&& 65535#32)) >>> 16) +
      (((BitVec.ofNat 32 ml * (c &&& 65535#32)) >>> 16 + ((BitVec.ofNat 32 ml * (c >>> 16)) &&& 65535#32) +
        ((BitVec.ofNat 32 mh * (c &&& 65535#32)) &&& 65535#32)) >>> 16)).toNat
      = (mh * 65536 + ml) * c.toNat / 4294967296 := by
  have hc := c.isLt
  have h1 : ∀ a, a &&& 65535 = a % 65536 := fun a => Nat.and_two_pow_sub_one_eq_mod a 16
  simp only [BitVec.toNat_add, BitVec.toNat_mul, BitVec.toNat_ushiftRight, BitVec.toNat_and, BitVec.toNat_ofNat,
    Nat.shiftRight_eq_div_pow]
  simp only [Nat.reducePow, Nat.reduceMod]
  simp only [h1]
  generalize hh : c.toNat / 65536 = ch
  generalize hl : c.toNat % 65536 = cl
  have hcc : c.toNat = ch * 65536 + cl := by omega
  have hch : ch < 65536 := by omega
  have hcl : cl < 65536 := by omega
  rw [hcc]
  have e : (mh * 65536 + ml) * (ch * 65536 + cl)
      = mh * ch * 4294967296 + (mh * cl + ml * ch) * 65536 + ml * cl := by ring
  rw [e]
  have b1 : mh * ch ≤ 65535 * 65535 := Nat.mul_le_mul (by omega) (by omega)
  have b2 : mh * cl ≤ 65535 * 65535 := Nat.mul_le_mul (by omega) (by omega)
  have b3 : ml * ch ≤ 65535 * 65535 := Nat.mul_le_mul (by omega) (by omega)
  have b4 : ml * cl ≤ 65535 * 65535 := Nat.mul_le_mul (by omega) (by omega)
  have m1 : mh % 4294967296 = mh := by omega
  have m2 : ml % 4294967296 = ml := by omega
  rw [m1, m2]
  have b5 : (mh * 65536 + ml) * c.toNat < 4294967296 * 4294967296 := Nat.mul_lt_mul'' (by omega) hc
  rw [hcc, e] at b5
  generalize mh * ch = A at *
  generalize mh * cl = B at *
  generalize ml * ch = C at *
  generalize ml * cl = D at *
  clear e hcc hh hl h1 hc m1 m2
  rw [Nat.mod_eq_of_lt (show A < 4294967296 by omega), Nat.mod_eq_of_lt (show B < 4294967296 by omega),
    Nat.mod_eq_of_lt (show C < 4294967296 by omega), Nat.mod_eq_of_lt (show D < 4294967296 by omega)]
  rw [Nat.mod_eq_of_lt (show A + C / 65536 < 4294967296 by omega),
    Nat.mod_eq_of_lt (show A + C / 65536 + B / 65536 < 4294967296 by omega),
    Nat.mod_eq_of_lt (show D / 65536 + C % 65536 < 4294967296 by omega),
    Nat.mod_eq_of_lt (show D / 65536 + C % 65536 + B % 65536 < 4294967296 by omega)]
  omega

/-! ## The kernel's vectors at an index -/

/-- The four words at an index. -/
def at4 (s : V4) (y : S8x128.Idx) (a b : BitVec 32) : W6 := (s.1 y, s.2.1 y, s.2.2.1 y, s.2.2.2 y, a, b)

theorem hi0V_at (c : V) (y : S8x128.Idx) : hi0V c y = hi0 (c y) := (hi0_parts (c y)).symm ▸ rfl

theorem hi1V_at (c : V) (y : S8x128.Idx) : hi1V c y = hi1 (c y) := (hi1_parts (c y)).symm ▸ rfl

theorem roundV_at (a b : BitVec 32) (s : V4) (y : S8x128.Idx) :
    step (at4 s y a b) = at4 (roundV a b s) y (a + 2654435769#32) (b + 3144134277#32) := by
  simp only [step, at4, ← hi0V_at, ← hi1V_at]
  rfl

theorem firstV_at (k0 k1 : BitVec 32) (c : V) (y : S8x128.Idx) :
    step (step (step (c y, 0#32, 0#32, 0#32, k0, k1)))
      = at4 (firstV k1 (k0 + 2654435769#32) (k1 + 3144134277#32) (k0 + 2654435769#32 + 2654435769#32)
          (k1 + 3144134277#32 + 3144134277#32) (hi0 k0) (3528531795#32 * k0) c) y
        (k0 + 2654435769#32 + 2654435769#32 + 2654435769#32) (k1 + 3144134277#32 + 3144134277#32 + 3144134277#32) := by
  have z1 : hi1 0#32 = 0#32 := by decide
  have z2 : (3449720151#32 * 0#32 : BitVec 32) = 0#32 := by decide
  have e : ∀ u v : BitVec 32, Scalar.xori u v = u ^^^ v := fun _ _ => rfl
  have e1 : ∀ (u v : V), xori u v y = u y ^^^ v y := fun _ _ => rfl
  have e2 : ∀ (u : BitVec 32), bc u y = u := fun _ => rfl
  have e3 : ∀ (u : V), lo0V u y = 3528531795#32 * u y := fun _ => rfl
  have e4 : ∀ (u : V), lo1V u y = 3449720151#32 * u y := fun _ => rfl
  simp only [step, at4, firstV, e1, hi0V_at, hi1V_at, e2, e3, e4, e, z1, z2, BitVec.xor_zero, BitVec.zero_xor]
  rw [show ∀ r, 3528531795#32 * c y ^^^ (hi0 k0 ^^^ r) = hi0 k0 ^^^ 3528531795#32 * c y ^^^ r from fun r => by
      rw [← BitVec.xor_assoc, BitVec.xor_comm (hi0 k0)],
    show ∀ p q r : BitVec 32, p ^^^ (q ^^^ r) = p ^^^ q ^^^ r from fun p q r => (BitVec.xor_assoc p q r).symm]

/-- The keys of the ten rounds from the two seed words. -/
def keys (k0 k1 : BitVec 32) : Keys :=
  let a1 := k0 + 2654435769#32
  let b1 := k1 + 3144134277#32
  let a2 := a1 + 2654435769#32
  let b2 := b1 + 3144134277#32
  let a3 := a2 + 2654435769#32
  let b3 := b2 + 3144134277#32
  let a4 := a3 + 2654435769#32
  let b4 := b3 + 3144134277#32
  let a5 := a4 + 2654435769#32
  let b5 := b4 + 3144134277#32
  let a6 := a5 + 2654435769#32
  let b6 := b5 + 3144134277#32
  let a7 := a6 + 2654435769#32
  let b7 := b6 + 3144134277#32
  let a8 := a7 + 2654435769#32
  let b8 := b7 + 3144134277#32
  let a9 := a8 + 2654435769#32
  let b9 := b8 + 3144134277#32
  ⟨k1, a1, b1, a2, b2, a3, b3, a4, b4, a5, b5, a6, b6, a7, b7, a8, b8, a9, b9, hi0 k0, 3528531795#32 * k0⟩

theorem philoxV_at (k0 k1 : BitVec 32) (c : V) (y : S8x128.Idx) :
    philox (c y) k0 k1 = at4 (philoxV (keys k0 k1) c) y ((keys k0 k1).k21 + 2654435769#32) ((keys k0 k1).k22 + 3144134277#32) := by
  show step (step (step (step (step (step (step (step (step (step _))))))))) = _
  rw [firstV_at, roundV_at, roundV_at, roundV_at, roundV_at, roundV_at, roundV_at, roundV_at]
  rfl

/-! ## The reference's vectors at an index -/

section Ref

open Cert.ReferenceIdeal (S6x256x4608)
open Cert.ReferenceIdeal.Gen Cert.ReferenceIdeal.Body

variable {F : FTy → Type} [FloatOps F]

/-- The reference's state at an index. -/
def atR (s : PState) (y : S6x256x4608.Idx) : W6 := (s.1 y, s.2.1 y, s.2.2.1 y, s.2.2.2.1 y, s.2.2.2.2.1, s.2.2.2.2.2)

theorem rnd_at (s : PState) (y : S6x256x4608.Idx) : atR (rnd (F := F) s) y = step (atR s y) := by
  have h0 : ∀ c : BitVec 32, _ = hi0 c := fun c => BitVec.eq_of_toNat_eq ((hi_ref 53841 8019 (by decide) (by decide) c).trans
    (by have := c.isLt; simp only [hi0, BitVec.toNat_ofNat]; rw [Nat.mod_eq_of_lt (by omega)]))
  have h1 : ∀ c : BitVec 32, _ = hi1 c := fun c => BitVec.eq_of_toNat_eq ((hi_ref 52638 36183 (by decide) (by decide) c).trans
    (by have := c.isLt; simp only [hi1, BitVec.toNat_ofNat]; rw [Nat.mod_eq_of_lt (by omega)]))
  simp only [step, atR, ← h0, ← h1]
  rfl

theorem iter_at (s : PState) (y : S6x256x4608.Idx) (n : ℕ) : atR ((rnd (F := F))^[n] s) y = step^[n] (atR s y) := by
  induction n with
  | zero => rfl
  | succ n ih => rw [Function.iterate_succ_apply', Function.iterate_succ_apply', rnd_at, ih]

end Ref

end Cert.Words
-- ==== Proof.Mask.lean ====
/- The kernel's keep mask at an index: the generator's word against the threshold. -/
module

public import proofs.«01_k».proof.Proof.Words
public import Idealize.ShloMosaic.Lib.Pipeline.Value
public import Idealize.ShloMosaic.Lib.ValueIdx
public import Idealize.ShloMosaic.Lib.ValueIdxCoords

@[expose] public section

set_option maxRecDepth 16384

noncomputable section

namespace Cert.Words

open Idealize.ShloMosaic Idealize.ShloMosaic.ValueIdx
open Cert.KernelIdeal Cert.KernelIdeal.Gen Cert.KernelIdeal.Value

/-- The vector of lane numbers. -/
abbrev lanes : V := iota .tc S8x128 32 [1] iota_S8x128_d1_w32

/-- The vector of sublane numbers. -/
abbrev subs : V := iota .tc S8x128 32 [0] iota_S8x128_d0_w32

/-- A word is kept when it is at least the threshold. -/
abbrev kept (w : BitVec 32) : Bool := (429496730#32).ule w

theorem bitV_at (w : V) (b : BitVec 32) (y : S8x128.Idx) : bitV w b y = if kept (w y) then b else 0#32 := by
  show Scalar.select (BitVec.ofBool (kept (w y))) b 0#32 = _
  cases kept (w y) <;> rfl

/-- Sixteen bits as one word. -/
def pack16 (b : Fin 4 → Fin 4 → Bool) : BitVec 32 :=
  (if b 0 0 then 1#32 else 0#32) ||| (if b 0 1 then 2#32 else 0#32) ||| (if b 0 2 then 4#32 else 0#32) ||| (if b 0 3 then 8#32 else 0#32)
    ||| (if b 1 0 then 16#32 else 0#32) ||| (if b 1 1 then 32#32 else 0#32) ||| (if b 1 2 then 64#32 else 0#32) ||| (if b 1 3 then 128#32 else 0#32)
    ||| (if b 2 0 then 256#32 else 0#32) ||| (if b 2 1 then 512#32 else 0#32) ||| (if b 2 2 then 1024#32 else 0#32) ||| (if b 2 3 then 2048#32 else 0#32)
    ||| (if b 3 0 then 4096#32 else 0#32) ||| (if b 3 1 then 8192#32 else 0#32) ||| (if b 3 2 then 16384#32 else 0#32) ||| (if b 3 3 then 32768#32 else 0#32)

/-- Its bits. -/
theorem pack16_bit (b : Fin 4 → Fin 4 → Bool) (g w : Fin 4) : (pack16 b).getLsbD (4 * g.val + w.val) = b g w := by
  have e : ∀ (n : ℕ) (c : Bool) (x : BitVec 32), (if c then x else 0#32).getLsbD n = (c && x.getLsbD n) := by
    intro n c x; cases c <;> simp
  simp only [pack16, BitVec.getLsbD_or, e]
  fin_cases g <;> fin_cases w <;> simp

/-- A word masked by one of its bits is zero exactly when the bit is not set. -/
theorem and_bit (x : BitVec 32) (n : ℕ) (h : n < 32) : (x &&& (1#32 <<< n) ≠ 0#32) ↔ x.getLsbD n = true := by
  constructor
  · intro hx
    by_contra hb
    apply hx
    apply BitVec.eq_of_getLsbD_eq
    intro i hi
    simp only [BitVec.getLsbD_and, BitVec.getLsbD_shiftLeft, BitVec.getLsbD_zero]
    by_cases hin : i = n
    · subst hin; simp_all
    · by_cases hlt : i < n
      · simp [hlt]
      · have : i - n ≠ 0 := by omega
        simp [BitVec.getLsbD_one, this]
  · intro hb hx
    have := congrArg (fun v => v.getLsbD n) hx
    rw [BitVec.getLsbD_and, hb, BitVec.getLsbD_shiftLeft] at this
    simp [h] at this

/-- The counter of group `g`, lane `c`, sublane `s`, trip `k`, step `i`. -/
def counter (i g k c s : ℕ) : BitVec 32 := BitVec.ofNat 32 ((32 * i + 8 * g + s) * 4608 + k * 128 + c)

/-- The kernel's sixteen bits are the generator's words against the threshold. -/
theorem packedV_at (k0 k1 : BitVec 32) (q0 : V) (j : BitVec 32) (y : S8x128.Idx) :
    packedV (keys k0 k1) q0 j y
      = pack16 fun g w => kept (word (philox (q0 y + (BitVec.ofNat 32 (36864 * g.val) + j * 128#32)) k0 k1) w) := by
  have w0 : ∀ off b, bitV (philoxV (keys k0 k1) (cntV q0 j off)).1 b y
      = if kept (word (philox (q0 y + (off + j * 128#32)) k0 k1) 0) then b else 0#32 := by
    intro off b; rw [bitV_at, show philox (q0 y + (off + j * 128#32)) k0 k1 = _ from philoxV_at k0 k1 (cntV q0 j off) y]; rfl
  have w1 : ∀ off b, bitV (philoxV (keys k0 k1) (cntV q0 j off)).2.1 b y
      = if kept (word (philox (q0 y + (off + j * 128#32)) k0 k1) 1) then b else 0#32 := by
    intro off b; rw [bitV_at, show philox (q0 y + (off + j * 128#32)) k0 k1 = _ from philoxV_at k0 k1 (cntV q0 j off) y]; rfl
  have w2 : ∀ off b, bitV (philoxV (keys k0 k1) (cntV q0 j off)).2.2.1 b y
      = if kept (word (philox (q0 y + (off + j * 128#32)) k0 k1) 2) then b else 0#32 := by
    intro off b; rw [bitV_at, show philox (q0 y + (off + j * 128#32)) k0 k1 = _ from philoxV_at k0 k1 (cntV q0 j off) y]; rfl
  have w3 : ∀ off b, bitV (philoxV (keys k0 k1) (cntV q0 j off)).2.2.2 b y
      = if kept (word (philox (q0 y + (off + j * 128#32)) k0 k1) 3) then b else 0#32 := by
    intro off b; rw [bitV_at, show philox (q0 y + (off + j * 128#32)) k0 k1 = _ from philoxV_at k0 k1 (cntV q0 j off) y]; rfl
  have o : ∀ u v : V, ori u v y = u y ||| v y := fun _ _ => rfl
  simp only [packedV, o, w0, w1, w2, w3]
  unfold pack16
  simp only [BitVec.or_assoc]
  rfl

theorem lanes_at (y : S8x128.Idx) : lanes y = BitVec.ofNat 32 (y 1).val := by
  show BitVec.ofNat 32 (0 * 128 + (y 1).val) = _
  rw [Nat.zero_mul, Nat.zero_add]

theorem subs_at (y : S8x128.Idx) : subs y = BitVec.ofNat 32 (y 0).val := by
  show BitVec.ofNat 32 (0 * 8 + (y 0).val) = _
  rw [Nat.zero_mul, Nat.zero_add]

/-- The lane that a piece takes a lane's mask from, on words. -/
def laneS (x off : BitVec 32) : BitVec 32 :=
  let d := IntOp.divsi .vector x 4#32
  let s := IntOp.subi ((IntOp.cmpi .sgt x 0#32).setWidth 32) ((IntOp.cmpi .slt x 0#32).setWidth 32)
  let v := IntOp.addi (Scalar.select (IntOp.andi (IntOp.cmpi .ne s (Scalar.subi (Scalar.extui (Scalar.cmpi .sgt 4#32 0#32))
    (Scalar.extui (Scalar.cmpi .slt 4#32 0#32)))) (IntOp.cmpi .ne (IntOp.remsi .vector x 4#32) 0#32)) (IntOp.subi d 1#32) d) off
  Scalar.select (IntOp.cmpi .slt v 0#32) (IntOp.addi v 128#32) v

/-- The position of a lane's word among four, on words. -/
def lanewS (x : BitVec 32) : BitVec 32 :=
  let r := IntOp.remsi .vector x 4#32
  Scalar.select (IntOp.andi (IntOp.xori (IntOp.cmpi .slt r 0#32) (Scalar.cmpi .slt 4#32 0#32)) (IntOp.cmpi .ne r 0#32))
    (IntOp.addi r 4#32) r

/-- The lane that piece `r` takes lane `l`'s mask from. -/
theorem laneV_at (y : S8x128.Idx) (r : Fin 4) :
    (laneV lanes (BitVec.ofNat 32 (32 * r.val)) y).toNat = (y 1).val / 4 + 32 * r.val := by
  have h : ∀ (l : Fin 128) (r : Fin 4), (laneS (BitVec.ofNat 32 l.val) (BitVec.ofNat 32 (32 * r.val))).toNat = l.val / 4 + 32 * r.val := by
    decide +kernel
  have e : laneV lanes (BitVec.ofNat 32 (32 * r.val)) y = laneS (lanes y) (BitVec.ofNat 32 (32 * r.val)) := rfl
  rw [e, lanes_at]
  exact h (y 1) r

theorem lanew_at (y : S8x128.Idx) : (k0_pay321 lanes y).toNat = (y 1).val % 4 := by
  have h : ∀ (l : Fin 128), (lanewS (BitVec.ofNat 32 l.val)).toNat = l.val % 4 := by
    decide +kernel
  have e : k0_pay321 lanes y = lanewS (lanes y) := rfl
  rw [e, lanes_at]
  exact h (y 1)

/-- The bits of piece `r` at an index. -/
theorem bitsV_at (packed : V) (y : S8x128.Idx) (r : Fin 4) :
    bitsV lanes packed (BitVec.ofNat 32 (32 * r.val)) y
      = packed (ix2 (y 0) ⟨(y 1).val / 4 + 32 * r.val, by have := idx2_lt1 y; omega⟩) := by
  unfold bitsV
  rw [shapeCast_shapeCast]
  unfold dynamicGather
  refine congrArg packed ?_
  funext b
  have h1 := idx2_lt1 y
  match b with
  | ⟨0, _⟩ => rfl
  | ⟨1, _⟩ =>
    refine Fin.ext ?_
    show (laneV lanes (BitVec.ofNat 32 (32 * r.val)) y).toNat % 128 = _
    rw [laneV_at]
    exact Nat.mod_eq_of_lt (by omega)

/-- A lane's bit in group `g`. -/
theorem maskV_at (bits : V) (y : S8x128.Idx) (g : Fin 4) :
    maskV (k0_pay321 lanes) bits (BitVec.ofNat 32 (4 * g.val)) y = bits y &&& (1#32 <<< (4 * g.val + (y 1).val % 4)) := by
  have h := lanew_at y
  have hl : (y 1).val % 4 < 4 := Nat.mod_lt _ (by decide)
  show bits y &&& (IntOp.shli .vector 1#32 (k0_pay321 lanes y + BitVec.ofNat 32 (4 * g.val))) = _
  have e : (k0_pay321 lanes y + BitVec.ofNat 32 (4 * g.val)).toNat = 4 * g.val + (y 1).val % 4 := by
    rw [BitVec.toNat_add, h, BitVec.toNat_ofNat]; omega
  unfold IntOp.shli
  rw [if_pos (by rw [e]; omega), BitVec.shiftLeft_eq', e]

/-- The mask over 32 rows, at row `8 * g + s`. -/
theorem keepV_at (lanew bits : V) (g : Fin 4) (s : Fin 8) (l : Fin 128) :
    keepV lanew bits (ix2 (n0 := 32) ⟨8 * g.val + s.val, by omega⟩ l)
      = BitVec.ofBool (maskV lanew bits (BitVec.ofNat 32 (4 * g.val)) (ix2 s l) != 0#32) := by
  have e : concatenate S32x128 0 [⟨S8x128, maskV lanew bits 0#32⟩, ⟨S8x128, maskV lanew bits 4#32⟩,
    ⟨S8x128, maskV lanew bits 8#32⟩, ⟨S8x128, maskV lanew bits 12#32⟩]
    concatenates_S8x128_S8x128_S8x128_S8x128_S32x128_d0 (ix2 (n0 := 32) ⟨8 * g.val + s.val, by omega⟩ l)
      = maskV lanew bits (BitVec.ofNat 32 (4 * g.val)) (ix2 s l) := by
    refine concatenate_apply_piece (t := S32x128) 0 _ _ _ g.val (by have := g.isLt; exact this) S8x128 _ ?_ rfl (8 * g.val) ?_ (ix2 s l) ?_ ?_
    · fin_cases g <;> rfl
    · fin_cases g <;> rfl
    · intro b hb
      match b with
      | ⟨0, _⟩ => exact absurd rfl hb
      | ⟨1, _⟩ => rfl
    · rfl
  show BitVec.ofBool (_ != 0#32) = _
  rw [e]

/-- **The keep mask**: bit by bit, the generator's word against the threshold. -/
theorem keep_at (k0 k1 : BitVec 32) (i k : ℕ) (r g : Fin 4) (s : Fin 8) (l : Fin 128) :
    keepV (k0_pay321 lanes) (bitsV lanes (packedV (keys k0 k1) (k0_pay320 (BitVec.ofNat 32 i) lanes subs)
        (Scf.iv 0#32 1#32 k)) (BitVec.ofNat 32 (32 * r.val))) (ix2 (n0 := 32) ⟨8 * g.val + s.val, by omega⟩ l)
      = BitVec.ofBool (kept (word (philox (counter i g.val k (l.val / 4 + 32 * r.val) s.val) k0 k1)
          ⟨l.val % 4, Nat.mod_lt _ (by decide)⟩)) := by
  rw [keepV_at, maskV_at, bitsV_at, packedV_at]
  congr 1
  have hb := and_bit (pack16 fun g' w => kept (word (philox (k0_pay320 (BitVec.ofNat 32 i) lanes subs
    (ix2 s ⟨l.val / 4 + 32 * r.val, by omega⟩) + (BitVec.ofNat 32 (36864 * g'.val) + Scf.iv 0#32 1#32 k * 128#32)) k0 k1) w))
    (4 * g.val + l.val % 4) (by omega)
  have hp := pack16_bit (fun g' w => kept (word (philox (k0_pay320 (BitVec.ofNat 32 i) lanes subs
    (ix2 s ⟨l.val / 4 + 32 * r.val, by omega⟩) + (BitVec.ofNat 32 (36864 * g'.val) + Scf.iv 0#32 1#32 k * 128#32)) k0 k1) w))
    g ⟨l.val % 4, Nat.mod_lt _ (by decide)⟩
  have hc : k0_pay320 (BitVec.ofNat 32 i) lanes subs (ix2 s ⟨l.val / 4 + 32 * r.val, by omega⟩)
      + (BitVec.ofNat 32 (36864 * g.val) + Scf.iv 0#32 1#32 k * 128#32)
      = counter i g.val k (l.val / 4 + 32 * r.val) s.val := by
    show (BitVec.ofNat 32 i * 32#32 + subs _) * 4608#32 + lanes _ + (BitVec.ofNat 32 (36864 * g.val) + (0#32 + BitVec.ofNat 32 k * 1#32) * 128#32) = _
    rw [subs_at, lanes_at]
    apply BitVec.eq_of_toNat_eq
    simp only [counter, BitVec.toNat_add, BitVec.toNat_mul, BitVec.toNat_ofNat, ix2_0, ix2_1]
    simp only [Nat.reducePow, Nat.reduceMod, Nat.mod_mul_mod, Nat.mul_mod_mod, Nat.add_mod_mod, Nat.mod_add_mod]
    congr 1
    ring
  rw [hc] at hp
  rw [← hp]
  rw [Bool.eq_iff_iff, bne_iff_ne]
  exact hb

end Cert.Words
-- ==== Proof.Scale.lean ====
/- A row's scale: the kernel's binary search over powers of two against the reference's least power above the row's maximum. -/
module

public import Idealize.ShloMosaic.PureOps.Ideal
public import Idealize.ShloMosaic.PureOps.Ideal.Laws
public import Mathlib.Tactic.Ring
public import Mathlib.Tactic.NormNum

@[expose] public section

set_option maxRecDepth 16384

noncomputable section

namespace Cert.Scale

open Idealize.ShloMosaic

/-- The power of two whose pattern has the exponent field `n`. -/
def P (n : ℕ) : EReal := (((2 : ℝ) ^ ((n : ℤ) - 127) : ℝ) : EReal)

theorem P_le {m n : ℕ} (h : m ≤ n) : P m ≤ P n := by
  unfold P
  exact EReal.coe_le_coe_iff.mpr (zpow_le_zpow_right₀ (by norm_num) (by omega))

theorem P_127 : P 127 = 1 := by
  unfold P; norm_num

/-- What the pattern with the exponent field `n` and no other bit denotes. -/
def thr (n : ℕ) : EReal := Ideal.ofBits .f32 (BitVec.ofNat 32 n <<< 23)

theorem fields : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by
  decide +kernel

theorem ieee_eq (b : BitVec 32) (n : ℕ) (h1 : 1 ≤ n) (h2 : n ≤ 254) (ha : b.extractLsb' 31 1 = 0#1)
    (hb : (b.extractLsb' 23 8).toNat = n) (hc : (b.extractLsb' 0 23).toNat = 0) : Ideal.ieee 8 23 b = P n := by
  have hs : (((2 ^ 23 + 0 : ℕ)) : ℝ) = (2 : ℝ) ^ (23 : ℤ) := by norm_num
  have e : (b.extractLsb' (8 + 23) 1 == 1#1) = false := by
    rw [show (8 + 23 : ℕ) = 31 from rfl, ha]; rfl
  have n1 : ¬n = 2 ^ 8 - 1 := by omega
  have n2 : ¬n = 0 := by omega
  unfold Ideal.ieee
  simp only [e, hb, hc]
  rw [if_neg n1, if_neg n2, if_neg (by decide), hs, one_mul, ← zpow_add₀ (by norm_num)]
  unfold P
  congr 2
  norm_num

theorem thr_eq (n : ℕ) (h1 : 1 ≤ n) (h2 : n ≤ 254) : thr n = P n :=
  ieee_eq _ n h1 h2 (fields ⟨n, by omega⟩).1 (fields ⟨n, by omega⟩).2.1 (fields ⟨n, by omega⟩).2.2

theorem thr_255 : thr 255 = ⊤ := by
  unfold thr
  simp [Ideal.ofBits, Ideal.ieee]

/-! ## The kernel's search -/

/-- One step of the search: add the bit `b` to the field when the power so named does not exceed `y`. -/
def srch (y : EReal) (f b : BitVec 32) : BitVec 32 :=
  Scalar.select (Ideal.cmp .oge y (Ideal.ofBits .f32 (IntOp.shli .vector (f + b) 23#32))) (f + b) f

/-- The field that the search ends at. -/
def field (y : EReal) : BitVec 32 :=
  srch y (srch y (srch y (srch y (srch y (srch y (srch y (srch y 0#32 128#32) 64#32) 32#32) 16#32) 8#32) 4#32) 2#32) 1#32

/-- What the search has found when the next bits are worth `d` altogether. -/
def Found (y : EReal) (d n : ℕ) : Prop :=
  n + d ≤ 256 ∧ (n = 0 ∨ thr n ≤ y) ∧ (n + d = 256 ∨ y < thr (n + d))

theorem srch_found (y : EReal) (d n : ℕ) (h : Found y (d + d) n) (f : BitVec 32) (hf : f = BitVec.ofNat 32 n) :
    ∃ n', srch y f (BitVec.ofNat 32 d) = BitVec.ofNat 32 n' ∧ Found y d n' := by
  obtain ⟨h1, h2, h3⟩ := h
  subst hf
  have ha : BitVec.ofNat 32 n + BitVec.ofNat 32 d = BitVec.ofNat 32 (n + d) := by
    rw [BitVec.ofNat_add]
  have hs : ∀ x : BitVec 32, IntOp.shli .vector x 23#32 = x <<< 23 := fun x => rfl
  unfold srch
  rw [ha, hs]
  by_cases hc : thr (n + d) ≤ y
  · refine ⟨n + d, ?_, by omega, Or.inr hc, ?_⟩
    · have : Ideal.cmp .oge y (Ideal.ofBits .f32 (BitVec.ofNat 32 (n + d) <<< 23)) = 1#1 := by
        show BitVec.ofBool (decide (thr (n + d) ≤ y)) = _
        rw [decide_eq_true hc]; rfl
      rw [this]; rfl
    · rcases h3 with h3 | h3
      · left; omega
      · right; rw [Nat.add_assoc]; exact h3
  · refine ⟨n, ?_, by omega, h2, Or.inr (not_le.mp hc)⟩
    have : Ideal.cmp .oge y (Ideal.ofBits .f32 (BitVec.ofNat 32 (n + d) <<< 23)) = 0#1 := by
      show BitVec.ofBool (decide (thr (n + d) ≤ y)) = _
      rw [decide_eq_false hc]; rfl
    rw [this]; rfl

theorem field_found (y : EReal) : ∃ n, field y = BitVec.ofNat 32 n ∧ Found y 1 n := by
  have h0 : Found y (128 + 128) 0 := ⟨by omega, Or.inl rfl, Or.inl rfl⟩
  obtain ⟨n1, e1, h1⟩ := srch_found y 128 0 h0 0#32 rfl
  obtain ⟨n2, e2, h2⟩ := srch_found y 64 n1 h1 _ e1
  obtain ⟨n3, e3, h3⟩ := srch_found y 32 n2 h2 _ e2
  obtain ⟨n4, e4, h4⟩ := srch_found y 16 n3 h3 _ e3
  obtain ⟨n5, e5, h5⟩ := srch_found y 8 n4 h4 _ e4
  obtain ⟨n6, e6, h6⟩ := srch_found y 4 n5 h5 _ e5
  obtain ⟨n7, e7, h7⟩ := srch_found y 2 n6 h6 _ e6
  obtain ⟨n8, e8, h8⟩ := srch_found y 1 n7 h7 _ e7
  exact ⟨n8, e8, h8⟩

/-- The exponent that the kernel takes from the field. -/
def expo (f : BitVec 32) : BitVec 32 :=
  let g := Scalar.select (IntOp.cmpi .sgt f 252#32) 255#32 f
  Scalar.select (IntOp.ori (IntOp.cmpi .eq g 0#32) (IntOp.cmpi .eq g 255#32)) 0#32 (IntOp.subi g 126#32)

/-- The field of the kernel's scale for the field `n` of the row's maximum. -/
def top (n : ℕ) : ℕ := if n = 0 ∨ 252 < n then 127 else n + 1

theorem expo_up : ∀ n : Fin 256, IntOp.addi (expo (BitVec.ofNat 32 n.val)) 127#32 = BitVec.ofNat 32 (top n.val) := by
  decide +kernel

theorem expo_down : ∀ n : Fin 256, IntOp.subi 127#32 (expo (BitVec.ofNat 32 n.val)) = BitVec.ofNat 32 (254 - top n.val) := by
  decide +kernel

/-- The kernel's scale. -/
def kscale (y : EReal) : EReal := Ideal.ofBits .f32 (IntOp.shli .vector (IntOp.addi (expo (field y)) 127#32) 23#32)

/-- The kernel's inverse scale. -/
def kinv (y : EReal) : EReal := Ideal.ofBits .f32 (IntOp.shli .vector (IntOp.subi 127#32 (expo (field y))) 23#32)

/-! ## The reference's scale -/

/-- The power of two at position `l` of the reference's list. -/
def pw (l : Fin 252) : EReal := Ideal.exp2 (((IntOp.subi (BitVec.ofNat 32 l.val) 125#32).toInt : ℝ) : EReal)

/-- The least of the listed powers above `y`. -/
def least (y : EReal) : EReal :=
  (Finset.univ : Finset (Fin 252)).fold min (Ideal.ofBits .f32 0x7F800000#32)
    (fun l => Scalar.select (Ideal.cmp .olt y (pw l)) (pw l) (Ideal.ofBits .f32 0x7F800000#32))

/-- The reference's scale. -/
def rscale (y : EReal) : EReal :=
  Scalar.select (IntOp.andi (Ideal.cmp .oge y (Ideal.ofBits .f32 0x00800000#32)) (Ideal.cmp .olt y (Ideal.ofBits .f32 0x7E800000#32)))
    (least y) (Ideal.ofBits .f32 0x3F800000#32)

theorem pw_int : ∀ l : Fin 252, (IntOp.subi (BitVec.ofNat 32 l.val) 125#32).toInt = (l.val : ℤ) - 125 := by
  decide +kernel

theorem pw_eq (l : Fin 252) : pw l = P (l.val + 2) := by
  unfold pw P
  rw [pw_int, Ideal.exp2_coe]
  congr 1
  show (2 : ℝ) ^ ((((l.val : ℤ) - 125 : ℤ)) : ℝ) = _
  rw [Real.rpow_intCast]
  congr 1
  push_cast
  ring

theorem inf_eq : Ideal.ofBits .f32 0x7F800000#32 = ⊤ := by simp [Ideal.ofBits, Ideal.ieee]
theorem one_eq : Ideal.ofBits .f32 0x3F800000#32 = P 127 := thr_eq 127 (by omega) (by omega)
theorem low_eq : Ideal.ofBits .f32 0x00800000#32 = P 1 := thr_eq 1 (by omega) (by omega)
theorem high_eq : Ideal.ofBits .f32 0x7E800000#32 = P 253 := thr_eq 253 (by omega) (by omega)

theorem least_eq (y : EReal) (n : ℕ) (h1 : 1 ≤ n) (h2 : n ≤ 252) (ha : P n ≤ y) (hb : y < P (n + 1)) : least y = P (n + 1) := by
  unfold least
  rw [inf_eq]
  apply le_antisymm
  · rw [Finset.fold_min_le]
    right
    refine ⟨⟨n - 1, by omega⟩, Finset.mem_univ _, ?_⟩
    have e : pw ⟨n - 1, by omega⟩ = P (n + 1) := by
      rw [pw_eq]; congr 1; show n - 1 + 2 = n + 1; omega
    rw [e]
    have : Ideal.cmp .olt y (P (n + 1)) = 1#1 := by
      show BitVec.ofBool (decide (y < P (n + 1))) = _
      rw [decide_eq_true hb]; rfl
    rw [this]
    exact le_refl _
  · rw [Finset.le_fold_min]
    refine ⟨le_top, fun l _ => ?_⟩
    by_cases hc : y < pw l
    · have : Ideal.cmp .olt y (pw l) = 1#1 := by
        show BitVec.ofBool (decide (y < pw l)) = _
        rw [decide_eq_true hc]; rfl
      rw [this]
      show P (n + 1) ≤ pw l
      rw [pw_eq] at hc ⊢
      refine P_le ?_
      by_contra hn
      exact absurd (lt_of_le_of_lt ha hc) (not_lt.mpr (P_le (by omega)))
    · have : Ideal.cmp .olt y (pw l) = 0#1 := by
        show BitVec.ofBool (decide (y < pw l)) = _
        rw [decide_eq_false hc]; rfl
      rw [this]
      exact le_top

theorem rscale_eq (y : EReal) (n : ℕ) (h : Found y 1 n) : rscale y = P (top n) := by
  obtain ⟨h1, h2, h3⟩ := h
  unfold rscale
  rw [low_eq, high_eq, one_eq]
  have hcond : IntOp.andi (Ideal.cmp .oge y (P 1)) (Ideal.cmp .olt y (P 253)) = BitVec.ofBool (decide (P 1 ≤ y) && decide (y < P 253)) := by
    show BitVec.ofBool (decide (P 1 ≤ y)) &&& BitVec.ofBool (decide (y < P 253)) = _
    cases decide (P 1 ≤ y) <;> cases decide (y < P 253) <;> rfl
  rw [hcond]
  unfold top
  by_cases hn : n = 0 ∨ 252 < n
  · rw [if_pos hn]
    have : (decide (P 1 ≤ y) && decide (y < P 253)) = false := by
      rcases hn with hn | hn
      · subst hn
        rcases h3 with h3 | h3
        · omega
        · rw [thr_eq 1 (by omega) (by omega)] at h3
          rw [decide_eq_false (not_le.mpr h3)]; rfl
      · have : P 253 ≤ y := by
          rcases h2 with h2 | h2
          · omega
          · by_cases h5 : n = 255
            · subst h5; rw [thr_255] at h2; exact le_trans le_top h2
            · exact le_trans (P_le (m := 253) (n := n) (by omega)) (by rw [← thr_eq n (by omega) (by omega)]; exact h2)
        rw [decide_eq_false (not_lt.mpr this), Bool.and_false]
    rw [this]; rfl
  · rw [if_neg hn]
    have ha : P n ≤ y := by
      rcases h2 with h2 | h2
      · omega
      · rw [← thr_eq n (by omega) (by omega)]; exact h2
    have hb : y < P (n + 1) := by
      rcases h3 with h3 | h3
      · omega
      · rw [← thr_eq (n + 1) (by omega) (by omega)]; exact h3
    rw [decide_eq_true (le_trans (P_le (by omega)) ha), decide_eq_true (lt_of_lt_of_le hb (P_le (by omega)))]
    exact least_eq y n (by omega) (by omega) ha hb

/-! ## They agree -/

/-- **The kernel's scale is the reference's.** -/
theorem kscale_eq (y : EReal) : kscale y = rscale y := by
  obtain ⟨n, e, h⟩ := field_found y
  rw [rscale_eq y n h]
  have hn : n < 256 := by have := h.1; omega
  unfold kscale
  rw [e, expo_up ⟨n, hn⟩]
  have ht : 1 ≤ top n ∧ top n ≤ 254 := by unfold top; split_ifs <;> omega
  exact thr_eq _ ht.1 ht.2

/-- **The kernel's inverse scale is the reference's quotient.** -/
theorem kinv_eq (y : EReal) : kinv y = Ideal.div (Ideal.ofBits .f32 0x3F800000#32) (rscale y) := by
  obtain ⟨n, e, h⟩ := field_found y
  rw [rscale_eq y n h, one_eq, P_127]
  have hn : n < 256 := by have := h.1; omega
  unfold kinv
  rw [e, expo_down ⟨n, hn⟩]
  have ht : 1 ≤ top n ∧ top n ≤ 253 := by unfold top; split_ifs <;> omega
  have h2 : Ideal.ofBits .f32 (IntOp.shli .vector (BitVec.ofNat 32 (254 - top n)) 23#32) = P (254 - top n) :=
    thr_eq _ (by omega) (by omega)
  rw [h2]
  have hp : ((2 : ℝ) ^ ((top n : ℤ) - 127)) ≠ 0 := zpow_ne_zero _ (by norm_num)
  unfold P
  rw [Ideal.div_coe hp, one_mul]
  congr 1
  rw [one_div, ← zpow_neg]
  congr 1
  omega

end Cert.Scale
-- ==== Proof.Spec.lean ====
/- The mathematics that kernel and reference share: the dropped gradient of one entry, a row's largest magnitude, and a code. -/
module

public import proofs.«01_k».proof.Proof.Mask
public import proofs.«01_k».proof.Proof.Scale

@[expose] public section

set_option maxRecDepth 16384

noncomputable section

namespace Cert.Spec

open Idealize.ShloMosaic Cert.Words

/-- The dropout factor of row `n`, column `c`: the scale where the generator's word is kept, else zero. -/
def fac (k0 k1 : BitVec 32) (n c : ℕ) : EReal :=
  Scalar.select (BitVec.ofBool (kept (word (philox (BitVec.ofNat 32 (n * 4608 + c / 4)) k0 k1) ⟨c % 4, Nat.mod_lt _ (by decide)⟩)))
    (Ideal.ofBits .f32 0x3F8E38E4#32) (Ideal.ofBits .f32 0x00000000#32)

/-- The gradient of row `n`, column `c`. -/
def grad (k0 k1 : BitVec 32) (n c : ℕ) (dy sc g : EReal) : EReal := dy * sc * fac k0 k1 n c + g

/-- A magnitude. -/
def mag (x : EReal) : EReal := max x (-x)

/-- The largest magnitude of a row. -/
def amax (v : Fin 18432 → EReal) : EReal :=
  (Finset.univ : Finset (Fin 18432)).fold max (Ideal.ofBits .f32 0xFF800000#32) fun c => mag (v c)

/-- A row's largest magnitude over the largest code. -/
def level (v : Fin 18432 → EReal) : EReal := amax v * Ideal.ofBits .f32 0x37924925#32

/-- The code of one entry, given the inverse scale. -/
def code (v inv : EReal) : EReal := min (Ideal.ofBits .f32 0x47600000#32) (max (Ideal.ofBits .f32 0xC7600000#32) (v * inv))

theorem mag_nonneg (x : EReal) : 0 ≤ mag x := by
  unfold mag
  rcases le_total 0 x with h | h
  · exact le_max_of_le_left h
  · exact le_max_of_le_right (EReal.neg_nonneg.mpr h)

theorem bot_eq : Ideal.ofBits .f32 0xFF800000#32 = ⊥ := by simp [Ideal.ofBits, Ideal.ieee]

theorem amax_le (v : Fin 18432 → EReal) (z : EReal) : amax v ≤ z ↔ ∀ c, mag (v c) ≤ z := by
  unfold amax
  rw [Finset.fold_max_le, bot_eq]
  exact ⟨fun h c => h.2 c (Finset.mem_univ _), fun h => ⟨bot_le, fun c _ => h c⟩⟩

end Cert.Spec
-- ==== Proof.Rows.lean ====
/- The kernel's first loop at an index: the gradients it stores and the running maximum it carries. -/
module

public import proofs.«01_k».proof.Proof.Spec
public import Idealize.ShloMosaic.Lib.WholeRead

@[expose] public section

set_option maxRecDepth 16384

noncomputable section

namespace Cert.KernelIdeal.Value

open Cert.KernelIdeal.Gen Cert.KernelIdeal
open Idealize.ShloMosaic Idealize.ShloMosaic.TcCoe Idealize.ShloMosaic.ValueIdx
open Cert.Words Cert.Spec

/-- The gradients of the 32 rows of step `n0`. -/
def gradAt (k0 k1 : BitVec 32) (n0 : ℕ) (sc : Fin 32 → EReal) (x2 : FVec Ideal S32x18432 .fp8e5m2)
    (x3 : FVec Ideal S32x18432 .bf16) (y : S32x18432.Idx) : EReal :=
  grad k0 k1 (32 * n0 + (y 0).val) (y 1).val (x2 y) (sc (y 0)) (x3 y)

theorem cols_emb (k : Fin k0_t1_loop.trips) (r : Fin 4) (R : Fin 32) (l : Fin 128) (hc : 512 * k.val + 128 * r.val + l.val < 18432) :
    (cols k r).emb (ix2 R l) = ix2 R ⟨512 * k.val + 128 * r.val + l.val, hc⟩ := by
  funext a
  apply Fin.ext
  rw [Rect.emb_apply]
  show (k0_off2 k (BitVec.ofNat 32 (128 * r.val))) a + 1 * _ = _
  rw [k0_off2_eq, Nat.one_mul]
  match a with
  | ⟨0, _⟩ => show 0 + R.val = R.val; omega
  | ⟨1, _⟩ => rfl

theorem trips1 : k0_t1_loop.trips = 36 := by decide +kernel

theorem col_lt (k : Fin k0_t1_loop.trips) (r : Fin 4) (l : Fin 128) : 512 * k.val + 128 * r.val + l.val < 18432 := by
  have := lt_of_lt_of_eq k.isLt trips1; omega

variable (k0 k1 : BitVec 32) (n0 : ℕ) (sc : Fin 32 → EReal) (v112 : FVec Ideal S32x128 .f32)
  (arg3 : Memref sig .tc .vmem S32x18432 .fp8e5m2) (harg3 : arg3.IsWhole) (arg4 : Memref sig .tc .vmem S32x18432 .bf16)
  (harg4 : arg4.IsWhole) (x2 : FVec Ideal S32x18432 .fp8e5m2) (x3 : FVec Ideal S32x18432 .bf16)

/-- One piece of one trip holds the gradients of its place. -/
theorem part_at (hsc : ∀ (R : Fin 32) (l : Fin 128), k0_pay319 v112 (ix2 R l) = sc R) (k : Fin k0_t1_loop.trips) (r : Fin 4)
    (y : S32x128.Idx) :
    partAt (F := Ideal) (keys k0 k1) (BitVec.ofNat 32 n0) lanes subs v112 arg3 arg4 (harg3.unread x2) (harg4.unread x3) k r y
      = gradAt k0 k1 n0 sc x2 x3 ((cols k r).emb y) := by
  obtain ⟨R, l, rfl⟩ : ∃ (R : Fin 32) (l : Fin 128), y = ix2 R l := ⟨y 0, y 1, eq_ix2 y⟩
  have hdy : View.readAt (Elt Ideal) arg3.view (cols k r).toLoadRect (harg3.unread x2) (ix2 R l) = x2 ((cols k r).emb (ix2 R l)) :=
    harg3.readAt_unread (Val := Elt Ideal) x2 (cols k r).toLoadRect (ix2 R l)
  have hg : View.readAt (Elt Ideal) arg4.view (cols k r).toLoadRect (harg4.unread x3) (ix2 R l) = x3 ((cols k r).emb (ix2 R l)) :=
    harg4.readAt_unread (Val := Elt Ideal) x3 (cols k r).toLoadRect (ix2 R l)
  have hR : R = ⟨8 * (R.val / 8) + R.val % 8, by omega⟩ := Fin.ext (by show R.val = 8 * (R.val / 8) + R.val % 8; omega)
  have hk := keep_at k0 k1 n0 k.val r ⟨R.val / 8, by omega⟩ ⟨R.val % 8, Nat.mod_lt _ (by decide)⟩ l
  rw [← hR] at hk
  show _ * k0_pay319 v112 (ix2 R l) * Scalar.select (keepV _ _ _) (Ideal.ofBits .f32 0x3F8E38E4#32) (Ideal.ofBits .f32 0x00000000#32) + _ = _
  rw [hsc, hk, extf_apply, extf_apply, shapeCast_self, shapeCast_self, hdy, hg]
  have hcol := col_lt k r l
  rw [cols_emb k r R l hcol]
  unfold gradAt grad fac counter
  simp only [ix2_0, ix2_1]
  have e1 : (32 * n0 + 8 * (R.val / 8) + R.val % 8) * 4608 + k.val * 128 + (l.val / 4 + 32 * r.val)
      = (32 * n0 + R.val) * 4608 + (512 * k.val + 128 * r.val + l.val) / 4 := by omega
  have e2 : (⟨l.val % 4, Nat.mod_lt _ (by decide)⟩ : Fin 4)
      = ⟨(512 * k.val + 128 * r.val + l.val) % 4, Nat.mod_lt _ (by decide)⟩ := Fin.ext (by show l.val % 4 = _ % 4; omega)
  rw [e1, e2]

variable (𝒱 : Variants) (c : Dev nD) (bd : Option 𝒱.V) (i : grid0.Coords) (arg1 : Memref sig .tc .smem S2 .i32)
  (harg1 : arg1.IsWhole) (arg2 : Memref sig .tc .vmem S6x256 .f32) (harg2 : arg2.IsWhole)
  (arg5 : Memref sig .tc .vmem S32x18432 .fp8e5m2) (harg5 : arg5.IsWhole) (arg6 : Memref sig .tc
  .vmem S6x256 .f32) (harg6 : arg6.IsWhole) (arg7 : Memref sig .tc .vmem S32x18432 .f32) (harg7 : arg7.IsWhole)

/-- The first loop's state with the generator's keys in place. -/
abbrev loop1 (n : ℕ) : FVec Ideal S32x128 .f32 × List (View.Piece (Elt Ideal) S32x18432 .f32) :=
  st_k0_t1 (F := Ideal) 𝒱 c bd i arg1 harg1 arg2 harg2 arg3 harg3 arg4 harg4 arg5 harg5 arg6 harg6 arg7 harg7 (BitVec.ofNat 32 n0)
    (keys k0 k1).k4 (keys k0 k1).k5 (keys k0 k1).k6 (keys k0 k1).k7 (keys k0 k1).k8 (keys k0 k1).k9 (keys k0 k1).k10 (keys k0 k1).k11
    (keys k0 k1).k12 (keys k0 k1).k13 (keys k0 k1).k14 (keys k0 k1).k15 (keys k0 k1).k16 (keys k0 k1).k17 (keys k0 k1).k18
    (keys k0 k1).k19 (keys k0 k1).k20 (keys k0 k1).k21 (keys k0 k1).k22 (keys k0 k1).p (keys k0 k1).q lanes subs v112
    (harg3.unread x2) (harg4.unread x3) k0_pay322 n

/-- One more trip. -/
theorem loop1_succ (k : Fin k0_t1_loop.trips) :
    loop1 k0 k1 n0 v112 arg3 harg3 arg4 harg4 x2 x3 𝒱 c bd i arg1 harg1 arg2 harg2 arg5 harg5 arg6 harg6 arg7 harg7 (k.val + 1)
      = (([0, 1, 2, 3] : List (Fin 4)).foldl (fun a r => maximumf a (absf (partAt (F := Ideal) (keys k0 k1) (BitVec.ofNat 32 n0) lanes subs v112 arg3 arg4
            (harg3.unread x2) (harg4.unread x3) k r))) (loop1 k0 k1 n0 v112 arg3 harg3 arg4 harg4 x2 x3 𝒱 c bd i arg1 harg1 arg2 harg2 arg5 harg5 arg6 harg6 arg7 harg7 k.val).1,
        ([3, 2, 1, 0] : List (Fin 4)).map (pieceAt (F := Ideal) (keys k0 k1) (BitVec.ofNat 32 n0) lanes subs v112 arg3 arg4
            (harg3.unread x2) (harg4.unread x3) k) ++ (loop1 k0 k1 n0 v112 arg3 harg3 arg4 harg4 x2 x3 𝒱 c bd i arg1 harg1 arg2 harg2 arg5 harg5 arg6 harg6 arg7 harg7 k.val).2) := by
  refine (st_k0_t1_succ (F := Ideal) 𝒱 c bd i arg1 harg1 arg2 harg2 arg3 harg3 arg4 harg4 arg5 harg5 arg6 harg6 arg7 harg7 (BitVec.ofNat 32 n0)
      (keys k0 k1).k4 (keys k0 k1).k5 (keys k0 k1).k6 (keys k0 k1).k7 (keys k0 k1).k8 (keys k0 k1).k9 (keys k0 k1).k10 (keys k0 k1).k11
      (keys k0 k1).k12 (keys k0 k1).k13 (keys k0 k1).k14 (keys k0 k1).k15 (keys k0 k1).k16 (keys k0 k1).k17 (keys k0 k1).k18
      (keys k0 k1).k19 (keys k0 k1).k20 (keys k0 k1).k21 (keys k0 k1).k22 (keys k0 k1).p (keys k0 k1).q lanes subs v112
      (harg3.unread x2) (harg4.unread x3) k0_pay322 k).trans ?_
  rw [trip_L, trip_R]

/-- The pieces that the first loop has written hold the gradients. -/
theorem loop1_pieces (hsc : ∀ (R : Fin 32) (l : Fin 128), k0_pay319 v112 (ix2 R l) = sc R) (n : ℕ) (hn : n ≤ k0_t1_loop.trips) :
    ∀ p ∈ (loop1 k0 k1 n0 v112 arg3 harg3 arg4 harg4 x2 x3 𝒱 c bd i arg1 harg1 arg2 harg2 arg5 harg5 arg6 harg6 arg7 harg7 n).2,
      ∀ x : p.1.shape.Idx, p.2 x = gradAt k0 k1 n0 sc x2 x3 (p.1.emb x) := by
  induction n with
  | zero => intro p hp; exact absurd hp List.not_mem_nil
  | succ n ih =>
    have hs := loop1_succ k0 k1 n0 v112 arg3 harg3 arg4 harg4 x2 x3 𝒱 c bd i arg1 harg1 arg2 harg2 arg5 harg5 arg6 harg6 arg7 harg7 ⟨n, hn⟩
    change loop1 _ _ _ _ _ _ _ _ _ _ _ _ _ _ _ _ _ _ _ _ _ _ _ _ (n + 1) = _ at hs
    intro p hp
    rw [hs] at hp
    rcases List.mem_append.mp hp with h | h
    · obtain ⟨r, -, rfl⟩ := List.mem_map.mp h
      intro x
      have := part_at k0 k1 n0 sc v112 arg3 harg3 arg4 harg4 x2 x3 hsc ⟨n, hn⟩ r x
      rw [← this]
      exact congrFun (shapeCast_self (partAt (F := Ideal) (keys k0 k1) (BitVec.ofNat 32 n0) lanes subs v112 arg3 arg4 (harg3.unread x2) (harg4.unread x3) ⟨n, hn⟩ r) _) x
    · exact ih (Nat.le_of_succ_le hn) p h

/-- What bounds the maximum that the first loop carries. -/
theorem loop1_max (hsc : ∀ (R : Fin 32) (l : Fin 128), k0_pay319 v112 (ix2 R l) = sc R) (n : ℕ) (hn : n ≤ k0_t1_loop.trips)
    (y : S32x128.Idx) (z : EReal) :
    (loop1 k0 k1 n0 v112 arg3 harg3 arg4 harg4 x2 x3 𝒱 c bd i arg1 harg1 arg2 harg2 arg5 harg5 arg6 harg6 arg7 harg7 n).1 y ≤ z
      ↔ 0 ≤ z ∧ ∀ (k : Fin k0_t1_loop.trips) (r : Fin 4), k.val < n → mag (gradAt k0 k1 n0 sc x2 x3 ((cols k r).emb y)) ≤ z := by
  induction n with
  | zero =>
    have h0 : (loop1 k0 k1 n0 v112 arg3 harg3 arg4 harg4 x2 x3 𝒱 c bd i arg1 harg1 arg2 harg2 arg5 harg5 arg6 harg6 arg7 harg7 0).1 y = 0 :=
      Ideal.ofBits_zero_f32
    rw [h0]
    exact ⟨fun h => ⟨h, fun k r hk => absurd hk (Nat.not_lt_zero _)⟩, fun h => h.1⟩
  | succ n ih =>
    have hs := loop1_succ k0 k1 n0 v112 arg3 harg3 arg4 harg4 x2 x3 𝒱 c bd i arg1 harg1 arg2 harg2 arg5 harg5 arg6 harg6 arg7 harg7 ⟨n, hn⟩
    change loop1 _ _ _ _ _ _ _ _ _ _ _ _ _ _ _ _ _ _ _ _ _ _ _ _ (n + 1) = _ at hs
    have hp := part_at k0 k1 n0 sc v112 arg3 harg3 arg4 harg4 x2 x3 hsc ⟨n, hn⟩
    rw [hs]
    dsimp only [List.foldl]
    simp only [maximumf_apply, max_le_iff, and_assoc]
    rw [ih (Nat.le_of_succ_le hn)]
    have ha : ∀ r : Fin 4, absf (partAt (F := Ideal) (keys k0 k1) (BitVec.ofNat 32 n0) lanes subs v112 arg3 arg4 (harg3.unread x2) (harg4.unread x3) ⟨n, hn⟩ r) y
        = mag (gradAt k0 k1 n0 sc x2 x3 ((cols ⟨n, hn⟩ r).emb y)) := fun r => by rw [← hp r y]; rfl
    have hr := fun r => (ha r)
    constructor
    · rintro ⟨⟨h0, h⟩, a0, a1, a2, a3⟩
      refine ⟨h0, fun k r hk => ?_⟩
      rcases Nat.lt_succ_iff_lt_or_eq.mp hk with hk | hk
      · exact h k r hk
      · have : k = ⟨n, hn⟩ := Fin.ext hk
        rw [this, ← ha r]
        fin_cases r
        · exact a0
        · exact a1
        · exact a2
        · exact a3
    · rintro ⟨h0, h⟩
      refine ⟨⟨h0, fun k r hk => h k r (Nat.lt_succ_of_lt hk)⟩, ?_, ?_, ?_, ?_⟩
      · exact le_of_eq_of_le (ha 0) (h ⟨n, hn⟩ 0 (Nat.lt_succ_self n))
      · exact le_of_eq_of_le (ha 1) (h ⟨n, hn⟩ 1 (Nat.lt_succ_self n))
      · exact le_of_eq_of_le (ha 2) (h ⟨n, hn⟩ 2 (Nat.lt_succ_self n))
      · exact le_of_eq_of_le (ha 3) (h ⟨n, hn⟩ 3 (Nat.lt_succ_self n))

end Cert.KernelIdeal.Value
-- ==== Proof.Quant.lean ====
/- The kernel's scales and one-hot sums at an index. -/
module

public import proofs.«01_k».proof.Proof.Rows

@[expose] public section

set_option maxRecDepth 16384

noncomputable section

namespace Cert.KernelIdeal.Value

open Cert.KernelIdeal.Gen Cert.KernelIdeal
open Idealize.ShloMosaic Idealize.ShloMosaic.TcCoe Idealize.ShloMosaic.ValueIdx Idealize.ShloMosaic.Tactic
open Cert.Words Cert.Spec Cert.Scale

/-! ## A row's largest magnitude -/

/-- The level of a row, from the running maximum of its 128 lanes. -/
theorem level_at (v141 : FVec Ideal S32x128 .f32) (G : S32x18432.Idx → EReal)
    (hmax : ∀ (y : S32x128.Idx) (z : EReal), v141 y ≤ z ↔ 0 ≤ z ∧ ∀ (k : Fin k0_t1_loop.trips) (r : Fin 4), mag (G ((cols k r).emb y)) ≤ z)
    (R : Fin 32) (l : Fin 128) :
    k0_pay326 v141 (ix2 R l) = level fun c => G (ix2 R c) := by
  have e1 : k0_pay326 v141 (ix2 R l)
      = multiReduction .maximumf [1] S32 v141 0xFF800000#32 reduces_S32x128_S32 (.inl rfl) rfl (ix1 R) * Ideal.ofBits .f32 0x37924925#32 := by
    show broadcastTo S32x128 _ _ (ix2 R l) * _ = _
    congr 1
    refine (broadcastTo_apply _ _ (ix2 R l) (ix2 (n1 := 1) R 0) ?_).trans ?_
    · intro a
      match a with
      | ⟨0, _⟩ => rfl
      | ⟨1, _⟩ => rfl
    · rw [shapeCast_self]
      refine shapeCast_apply _ _ _ (ix1 R) ?_
      rw [Shape.rowMajor_val_two, Shape.rowMajor_val_one]
      show R.val = R.val * 1 + 0
      omega
  rw [e1]
  unfold level
  refine congrArg (· * Ideal.ofBits .f32 0x37924925#32)
    ((Ideal.multiReduction_maximumf_single v141 0xFF800000#32 reduces_S32x128_S32 (.inl rfl) rfl (ix1 R)).trans ?_)
  apply eq_of_forall_ge_iff
  intro z
  rw [amax_le, Finset.fold_max_le]
  have hl : ∀ l : Fin 128, reduces_S32x128_S32.lift (ix1 R) l = (ix2 R l : S32x128.Idx) := by
    intro l
    funext a
    match a with
    | ⟨0, _⟩ => rfl
    | ⟨1, _⟩ => rfl
  constructor
  · rintro ⟨-, h⟩ c
    have hc := c.isLt
    have h1 : v141 (ix2 R ⟨c.val % 128, Nat.mod_lt _ (by decide)⟩) ≤ z :=
      le_of_eq_of_le (congrArg v141 (hl ⟨c.val % 128, Nat.mod_lt _ (by decide)⟩)).symm
        (h (⟨c.val % 128, Nat.mod_lt _ (by decide)⟩ : Fin 128) (Finset.mem_univ _))
    have h2 := ((hmax _ _).mp h1).2 ⟨c.val / 512, by rw [trips1]; omega⟩ ⟨c.val / 128 % 4, Nat.mod_lt _ (by decide)⟩
    rw [cols_emb _ _ _ _ (col_lt _ _ _)] at h2
    have e : (⟨512 * (c.val / 512) + 128 * (c.val / 128 % 4) + c.val % 128, by omega⟩ : Fin 18432) = c := Fin.ext (by
      show 512 * (c.val / 512) + 128 * (c.val / 128 % 4) + c.val % 128 = c.val; omega)
    rw [← e]
    exact h2
  · intro h
    refine ⟨by rw [show FloatOps.ofBits (F := Ideal) .f32 0xFF800000#32 = ⊥ from bot_eq]; exact bot_le, fun l _ => ?_⟩
    refine le_of_eq_of_le (congrArg v141 (hl l)) ((hmax _ _).mpr ?_)
    refine ⟨le_trans (mag_nonneg _) (h 0), fun k r => ?_⟩
    exact le_of_eq_of_le (congrArg (fun y => mag (G y)) (cols_emb k r R l (col_lt k r l))) (h _)

/-! ## The scale -/

/-- The field that the search's vector operations leave for the level `v`. -/
theorem expo_at (v141 : FVec Ideal S32x128 .f32) (y : S32x128.Idx) :
    k0_pay333 (k0_pay326 v141) (k0_pay330 (k0_pay326 v141) k0_pay327 k0_pay328 (k0_pay329 v141))
      (k0_pay331 (k0_pay326 v141) k0_pay327 k0_pay328 (k0_pay329 v141)) k0_pay332 y = expo (field (k0_pay326 v141 y)) := by
  sl_kernel_rfl

theorem inv_at (v141 : FVec Ideal S32x128 .f32) (y : S32x128.Idx) :
    k0_pay334 (k0_pay326 v141) (k0_pay330 (k0_pay326 v141) k0_pay327 k0_pay328 (k0_pay329 v141))
      (k0_pay331 (k0_pay326 v141) k0_pay327 k0_pay328 (k0_pay329 v141)) k0_pay332 y = kinv (k0_pay326 v141 y) := by
  unfold kinv
  rw [← expo_at]
  rfl

/-- The scale of the level `v`, as a vector. -/
def scaleV (v141 : FVec Ideal S32x128 .f32) : FVec Ideal S32x128 .f32 :=
  bitcastToFloat .f32 (shli (addi (k0_pay333 (k0_pay326 v141) (k0_pay330 (k0_pay326 v141) k0_pay327 k0_pay328 (k0_pay329 v141))
      (k0_pay331 (k0_pay326 v141) k0_pay327 k0_pay328 (k0_pay329 v141)) k0_pay332) (broadcast S32x128 127#32)) (broadcast S32x128 23#32))

theorem scaleV_at (v141 : FVec Ideal S32x128 .f32) (y : S32x128.Idx) : scaleV v141 y = kscale (k0_pay326 v141 y) := by
  unfold kscale
  rw [← expo_at]
  rfl

/-! ## The one-hot sums -/

theorem sum_pick {n : ℕ} (p : Fin n) (c : Fin n → BitVec 1) (f : Fin n → EReal) (h1 : c p = 1#1) (h0 : ∀ k, k ≠ p → c k = 0#1) :
    ∑ k, Scalar.select (c k) (f k) (Ideal.ofBits .f32 0x00000000#32) = f p := by
  rw [Finset.sum_eq_single p]
  · rw [h1]; rfl
  · intro k _ hk
    rw [h0 k hk]
    exact Ideal.ofBits_zero_f32
  · intro h; exact absurd (Finset.mem_univ _) h

/-- The words of step `n`: its batch, its first row, and the lane offset. -/
abbrev w54 (n : ℕ) : BitVec 32 := BitVec.ofNat 32 (n / 8)
abbrev w65 (n : ℕ) : BitVec 32 := BitVec.ofNat 32 (32 * (n % 8))
abbrev w94 (n : ℕ) : BitVec 32 := BitVec.ofNat 32 (32 * (n % 4))

theorem inBatch_at (n : ℕ) (hn : n < 48) (b : Fin 6) (l : Fin 128) :
    k0_pay316 (w54 n) (ix2 b l) = BitVec.ofBool (decide (b.val = n / 8)) := by
  have h : ∀ (n : Fin 48) (b : Fin 6), IntOp.cmpi .eq (BitVec.ofNat 32 (0 * 6 + b.val)) (BitVec.ofNat 32 (n.val / 8))
      = BitVec.ofBool (decide (b.val = n.val / 8)) := by decide +kernel
  exact h ⟨n, hn⟩ b

/-- The lane offset as the diagonal computes it from the first row's word, on words. -/
def offS (x : BitVec 32) : BitVec 32 :=
  let v86 := Scalar.select (Scalar.cmpi .eq 128#32 0#32) 1#32 128#32
  let v87 := Scalar.remsi x v86
  Scalar.select (Scalar.andi (Scalar.xori (Scalar.cmpi .slt v87 0#32) (Scalar.cmpi .slt v86 0#32)) (Scalar.cmpi .ne v87 0#32))
    (Scalar.addi v87 v86) v87

theorem offS_at : ∀ n : Fin 48, offS (w65 n.val) = w94 n.val := by decide +kernel

theorem diag_at (n : ℕ) (hn : n < 48) (R : Fin 32) (l : Fin 128) :
    k0_pay317 (w65 n) (ix2 R l) = BitVec.ofBool (decide (l.val = R.val + 32 * (n % 4))) := by
  have h : ∀ (q : Fin 4) (R : Fin 32) (l : Fin 128), IntOp.cmpi .eq (BitVec.ofNat 32 (0 * 128 + l.val)) (BitVec.ofNat 32 (0 * 32 + R.val) + BitVec.ofNat 32 (32 * q.val))
      = BitVec.ofBool (decide (l.val = R.val + 32 * q.val)) := by decide +kernel
  have e : k0_pay317 (w65 n) (ix2 R l) = IntOp.cmpi .eq (BitVec.ofNat 32 (0 * 128 + l.val)) (BitVec.ofNat 32 (0 * 32 + R.val) + offS (w65 n)) := rfl
  rw [e, offS_at ⟨n, hn⟩]
  exact h ⟨n % 4, Nat.mod_lt _ (by decide)⟩ R l

theorem mine_at (n : ℕ) (hn : n < 48) (b : Fin 6) (l : Fin 128) :
    k0_pay337 (w94 n) (k0_pay316 (w54 n)) (ix2 b l)
      = BitVec.ofBool (decide (b.val = n / 8) && decide (32 * (n % 4) ≤ l.val ∧ l.val < 32 * (n % 4) + 32)) := by
  have h : ∀ (q : Fin 4) (x : Bool) (l : Fin 128), IntOp.andi (IntOp.andi (BitVec.ofBool x) (IntOp.cmpi .sge (BitVec.ofNat 32 (0 * 128 + l.val)) (BitVec.ofNat 32 (32 * q.val))))
      (IntOp.cmpi .slt (BitVec.ofNat 32 (0 * 128 + l.val)) (Scalar.addi (BitVec.ofNat 32 (32 * q.val)) 32#32))
      = BitVec.ofBool (x && decide (32 * q.val ≤ l.val ∧ l.val < 32 * q.val + 32)) := by decide +kernel
  have e : k0_pay337 (w94 n) (k0_pay316 (w54 n)) (ix2 b l) = IntOp.andi (IntOp.andi (k0_pay316 (w54 n) (ix2 b l)) (IntOp.cmpi .sge (BitVec.ofNat 32 (0 * 128 + l.val)) (w94 n)))
      (IntOp.cmpi .slt (BitVec.ofNat 32 (0 * 128 + l.val)) (Scalar.addi (w94 n) 32#32)) := rfl
  rw [e, inBatch_at n hn]
  exact h ⟨n % 4, Nat.mod_lt _ (by decide)⟩ _ l

theorem batch_lt (n : ℕ) (hn : n < 48) : n / 8 < 6 := by omega

/-- The column sum of a 6 × 128 vector, spread over the rows where the diagonal is set. -/
theorem pay318_at (n : ℕ) (hn : n < 48) (v99 : FVec Ideal S6x128 .f32) (R : Fin 32) (l : Fin 128) :
    k0_pay318 (w54 n) (w65 n) v99 (ix2 R l)
      = Scalar.select (k0_pay317 (w65 n) (ix2 R l)) (v99 (ix2 ⟨n / 8, batch_lt n hn⟩ l)) (Ideal.ofBits .f32 0x00000000#32) := by
  show Scalar.select _ (broadcastTo S32x128 _ _ (ix2 R l)) _ = _
  congr 1
  refine (broadcastTo_apply _ _ (ix2 R l) (ix2 (n0 := 1) 0 l) ?_).trans ?_
  · intro a
    match a with
    | ⟨0, _⟩ => rfl
    | ⟨1, _⟩ => rfl
  · rw [shapeCast_self]
    refine (shapeCast_apply _ _ _ (ix1 l) ?_).trans ?_
    · rw [Shape.rowMajor_val_two, Shape.rowMajor_val_one]
      show l.val = 0 * 128 + l.val
      omega
    · refine (Ideal.multiReduction_add_single _ _ _ _ _ _).trans ?_
      have hl : ∀ b : Fin 6, reduces_S6x128_S128.lift (ix1 l) b = (ix2 b l : S6x128.Idx) := by
        intro b
        funext a
        match a with
        | ⟨0, _⟩ => rfl
        | ⟨1, _⟩ => rfl
      refine Eq.trans ?_ (sum_pick (n := 6) ⟨n / 8, batch_lt n hn⟩ (fun b => k0_pay316 (w54 n) (ix2 b l)) (fun b => v99 (ix2 b l)) ?_ ?_)
      · refine Finset.sum_congr rfl fun b _ => ?_
        rw [hl b]; rfl
      · rw [inBatch_at n hn, decide_eq_true rfl]; rfl
      · intro b hb
        rw [inBatch_at n hn, decide_eq_false (fun h => hb (Fin.ext h))]; rfl

theorem lane_lt (n : ℕ) (R : Fin 32) : R.val + 32 * (n % 4) < 128 := by omega

/-- **The row's input scale.** -/
theorem pay319_at (n : ℕ) (hn : n < 48) (v99 : FVec Ideal S6x128 .f32) (R : Fin 32) (l : Fin 128) :
    k0_pay319 (k0_pay318 (w54 n) (w65 n) v99) (ix2 R l) = v99 (ix2 ⟨n / 8, batch_lt n hn⟩ ⟨R.val + 32 * (n % 4), lane_lt n R⟩) := by
  unfold k0_pay319
  dsimp only
  refine (broadcastTo_apply _ _ (ix2 R l) (ix2 (n1 := 1) R 0) ?_).trans ?_
  · intro a
    match a with
    | ⟨0, _⟩ => rfl
    | ⟨1, _⟩ => rfl
  · rw [shapeCast_self]
    refine (shapeCast_apply _ _ _ (ix1 R) ?_).trans ?_
    · rw [Shape.rowMajor_val_two, Shape.rowMajor_val_one]
      show R.val = R.val * 1 + 0
      omega
    · refine (Ideal.multiReduction_add_single _ _ _ _ _ _).trans ?_
      have hl : ∀ l : Fin 128, reduces_S32x128_S32.lift (ix1 R) l = (ix2 R l : S32x128.Idx) := by
        intro l
        funext a
        match a with
        | ⟨0, _⟩ => rfl
        | ⟨1, _⟩ => rfl
      refine Eq.trans ?_ (sum_pick (n := 128) ⟨R.val + 32 * (n % 4), lane_lt n R⟩ (fun l => k0_pay317 (w65 n) (ix2 R l))
        (fun l => v99 (ix2 ⟨n / 8, batch_lt n hn⟩ l)) ?_ ?_)
      · refine Finset.sum_congr rfl fun l _ => ?_
        rw [hl l]; exact pay318_at n hn v99 R l
      · rw [diag_at n hn, decide_eq_true rfl]; rfl
      · intro l hb
        rw [diag_at n hn, decide_eq_false (fun h => hb (Fin.ext h))]; rfl

/-- **The scales' row**: at lane `R + 32 * (n % 4)` the scale of row `R`. -/
theorem pay336_at (n : ℕ) (hn : n < 48) (v141 : FVec Ideal S32x128 .f32) (R : Fin 32) :
    k0_pay336 (k0_pay317 (w65 n)) (k0_pay326 v141) (k0_pay330 (k0_pay326 v141) k0_pay327 k0_pay328 (k0_pay329 v141))
      (k0_pay331 (k0_pay326 v141) k0_pay327 k0_pay328 (k0_pay329 v141)) k0_pay332 (ix2 (n0 := 1) 0 ⟨R.val + 32 * (n % 4), lane_lt n R⟩)
      = kscale (k0_pay326 v141 (ix2 R ⟨R.val + 32 * (n % 4), lane_lt n R⟩)) := by
  rw [← scaleV_at]
  unfold k0_pay336
  dsimp only
  refine (shapeCast_apply _ _ _ (ix1 (⟨R.val + 32 * (n % 4), lane_lt n R⟩ : Fin 128)) ?_).trans ?_
  · rw [Shape.rowMajor_val_two, Shape.rowMajor_val_one]
    show R.val + 32 * (n % 4) = 0 * 128 + (R.val + 32 * (n % 4))
    omega
  · refine (Ideal.multiReduction_add_single _ _ _ _ _ _).trans ?_
    have hl : ∀ (R' : Fin 32) (l : Fin 128), reduces_S32x128_S128.lift (ix1 l) R' = (ix2 R' l : S32x128.Idx) := by
      intro R' l
      funext a
      match a with
      | ⟨0, _⟩ => rfl
      | ⟨1, _⟩ => rfl
    refine Eq.trans ?_ (sum_pick (n := 32) R (fun R' => k0_pay317 (w65 n) (ix2 R' ⟨R.val + 32 * (n % 4), lane_lt n R⟩))
      (fun R' => scaleV v141 (ix2 R' ⟨R.val + 32 * (n % 4), lane_lt n R⟩)) ?_ ?_)
    · refine Finset.sum_congr rfl fun R' _ => ?_
      rw [hl R']; rfl
    · rw [diag_at n hn, decide_eq_true rfl]; rfl
    · intro R' hb
      rw [diag_at n hn, decide_eq_false (fun h => hb (Fin.ext (by dsimp only at h; omega)))]; rfl

/-- The stored scales: the step's own rows get theirs, the rest keep what was there. -/
theorem pay1_at (row : FVec Ideal S1x128 .f32) (mine : IVec S6x128 1) (old : FVec Ideal S6x128 .f32) (b : Fin 6) (l : Fin 128) :
    k0_pay1 row mine old (ix2 b l) = Scalar.select (mine (ix2 b l)) (row (ix2 (n0 := 1) 0 l)) (old (ix2 b l)) := by
  show Scalar.select _ (broadcastTo S6x128 _ _ (ix2 b l)) _ = _
  rw [shapeCast_self, shapeCast_self]
  congr 1
  refine broadcastTo_apply _ _ (ix2 b l) (ix2 (n0 := 1) 0 l) ?_
  intro a
  match a with
  | ⟨0, _⟩ => rfl
  | ⟨1, _⟩ => rfl

end Cert.KernelIdeal.Value
-- ==== Proof.Codes.lean ====
/- The kernel's second loop at an index: the codes it stores. -/
module

public import proofs.«01_k».proof.Proof.Quant

@[expose] public section

set_option maxRecDepth 16384

noncomputable section

namespace Cert.KernelIdeal.Value

open Cert.KernelIdeal.Gen Cert.KernelIdeal
open Idealize.ShloMosaic Idealize.ShloMosaic.TcCoe Idealize.ShloMosaic.ValueIdx Idealize.ShloMosaic.Tactic
open Idealize.SL Idealize.SL.Sem
open Cert.Words Cert.Spec Cert.Scale

/-- The columns of the second loop's piece `r`. -/
abbrev colsR (k : Fin k0_t2_loop.trips) (r : Fin 4) : Rect S32x18432 :=
  Rect.unit (k0_off3 k (BitVec.ofNat 32 (128 * r.val))) S32x128.size (k0_off3_inb k r)

variable (𝒱 : Variants) (c : Dev nD) (bd : Option 𝒱.V) (i : grid0.Coords) (arg1 : Memref sig .tc .smem S2 .i32)
  (harg1 : arg1.IsWhole) (arg2 : Memref sig .tc .vmem S6x256 .f32) (harg2 : arg2.IsWhole) (arg3 : Memref sig .tc
  .vmem S32x18432 .fp8e5m2) (harg3 : arg3.IsWhole) (arg4 : Memref sig .tc .vmem S32x18432 .bf16) (harg4 :
  arg4.IsWhole) (arg5 : Memref sig .tc .vmem S32x18432 .fp8e5m2) (harg5 : arg5.IsWhole) (arg6 : Memref sig .tc
  .vmem S6x256 .f32) (harg6 : arg6.IsWhole) (arg7 : Memref sig .tc .vmem S32x18432 .f32) (harg7 : arg7.IsWhole)
  (v84 v94 : BitVec 32) (v97 : IVec S6x128 1) (v108 : IVec S32x128 1) (v147 : FVec Ideal S32x128 .f32)
  (v197 v199 v200 : IVec S32x128 32) (X : BufTy.Contents (Elt Ideal) arg7.view.ty)

/-- The pieces that a trip of the second loop writes to the codes' block, the last first. -/
theorem trip2_L (k : Fin k0_t2_loop.trips) :
    tripL_k0_t2 (F := Ideal) 𝒱 c bd i arg1 harg1 arg2 harg2 arg3 harg3 arg4 harg4 arg5 harg5 arg6 harg6 arg7 harg7 v84 v94 v97 v108 v147 v197 v199 v200 X k
      = ([3, 2, 1, 0] : List (Fin 4)).map fun r => (⟨colsR k r, k0_pay312 (k0_pay334 v147 v197 v199 v200)
          (View.readAt (Elt Ideal) arg7.view (colsR k r).toLoadRect X)⟩ : View.Piece (Elt Ideal) S32x18432 .fp8e5m2) := by
  unfold tripL_k0_t2
  rw [trip_k0_t2.eq_1]
  sl_kernel_rfl

/-- The second loop's pieces. -/
abbrev loop2 (n : ℕ) : List (View.Piece (Elt Ideal) S32x18432 .fp8e5m2) :=
  pb_k0_t2 (F := Ideal) 𝒱 c bd i arg1 harg1 arg2 harg2 arg3 harg3 arg4 harg4 arg5 harg5 arg6 harg6 arg7 harg7 v84 v94 v97 v108 v147 v197 v199 v200 X n

/-- Where the scratch block holds `G` and the inverse scales are the rows' `inv`, the second loop's pieces hold the codes. -/
theorem loop2_pieces (G : S32x18432.Idx → EReal) (inv : Fin 32 → EReal)
    (hG : ∀ y, View.read (Elt Ideal) arg7.view X y = G y)
    (hinv : ∀ (R : Fin 32) (l : Fin 128), k0_pay334 v147 v197 v199 v200 (ix2 R l) = inv R)
    (n : ℕ) (hn : n ≤ k0_t2_loop.trips) :
    ∀ p ∈ loop2 𝒱 c bd i arg1 harg1 arg2 harg2 arg3 harg3 arg4 harg4 arg5 harg5 arg6 harg6 arg7 harg7 v84 v94 v97 v108 v147 v197 v199 v200 X n,
      ∀ x : p.1.shape.Idx, p.2 x = code (G (p.1.emb x)) (inv (p.1.emb x 0)) := by
  induction n with
  | zero => intro p hp; exact absurd hp List.not_mem_nil
  | succ n ih =>
    have hs := pb_k0_t2_succ (F := Ideal) 𝒱 c bd i arg1 harg1 arg2 harg2 arg3 harg3 arg4 harg4 arg5 harg5 arg6 harg6 arg7 harg7 v84 v94 v97 v108 v147 v197 v199 v200 X ⟨n, hn⟩
    rw [trip2_L] at hs
    change loop2 _ _ _ _ _ _ _ _ _ _ _ _ _ _ _ _ _ _ _ _ _ _ _ _ _ _ _ (n + 1) = _ at hs
    intro p hp
    rw [hs] at hp
    rcases List.mem_append.mp hp with h | h
    · obtain ⟨r, -, rfl⟩ := List.mem_map.mp h
      intro x
      obtain ⟨R, l, rfl⟩ : ∃ (R : Fin 32) (l : Fin 128), x = ix2 R l := ⟨x 0, x 1, eq_ix2 (n0 := 32) (n1 := 128) x⟩
      have h0 : (colsR ⟨n, hn⟩ r).emb (ix2 R l) 0 = R := by
        apply Fin.ext
        rw [Rect.emb_apply]
        show (k0_off3 ⟨n, hn⟩ (BitVec.ofNat 32 (128 * r.val))) 0 + 1 * R.val = _
        rw [k0_off3_eq, Nat.one_mul]
        show 0 + R.val = R.val
        omega
      show min (Ideal.ofBits .f32 0x47600000#32) (max (Ideal.ofBits .f32 0xC7600000#32)
        (View.readAt (Elt Ideal) arg7.view (colsR ⟨n, hn⟩ r).toLoadRect X (ix2 R l) * k0_pay334 v147 v197 v199 v200 (ix2 R l))) = _
      rw [hinv]
      have hr : View.readAt (Elt Ideal) arg7.view (colsR ⟨n, hn⟩ r).toLoadRect X (ix2 R l) = G ((colsR ⟨n, hn⟩ r).emb (ix2 R l)) :=
        hG _
      rw [hr]
      unfold code
      rw [show inv ((colsR ⟨n, hn⟩ r).emb (ix2 R l) 0) = inv R from congrArg inv h0]
    · exact ih (Nat.le_of_succ_le hn) p h

end Cert.KernelIdeal.Value
-- ==== Proof.Step.lean ====
/- One grid step of the kernel at an index: the codes and the scales of its 32 rows. -/
module

public import proofs.«01_k».proof.Proof.Codes
public import proofs.«01_k».proof.Proof.KernelIdealPieces

@[expose] public section

set_option maxRecDepth 16384

noncomputable section

namespace Cert.KernelIdeal.Value

open Cert.KernelIdeal.Gen Cert.KernelIdeal Cert.KernelIdeal.Body
open Idealize.ShloMosaic Idealize.ShloMosaic.TcCoe Idealize.ShloMosaic.ValueIdx Idealize.ShloMosaic.Tactic
open Idealize.SL Idealize.SL.Sem
open Cert.Words Cert.Spec Cert.Scale

/-! ## The step's words -/

theorem batchA : ∀ i : grid0.Coords, kernelRun0_A.sl.v54 i = w54 (i 0).val := by decide +kernel
theorem batchB : ∀ i : grid0.Coords, kernelRun0_B.sl.v54 i = w54 (i 0).val := by decide +kernel
theorem firstA : ∀ i : grid0.Coords, kernelRun0_A.sl.v65 i = w65 (i 0).val := by decide +kernel
theorem firstB : ∀ i : grid0.Coords, kernelRun0_B.sl.v65 i = w65 (i 0).val := by decide +kernel
theorem laneA : ∀ i : grid0.Coords, kernelRun0_A.sl.v94 i = w94 (i 0).val := by decide +kernel
theorem laneB : ∀ i : grid0.Coords, kernelRun0_B.sl.v94 i = w94 (i 0).val := by decide +kernel

theorem off1_0 : ∀ i : grid0.Coords, k0_off1 i 0 = 0 := by decide +kernel
theorem off1_1 : ∀ i : grid0.Coords, k0_off1 i 1 = 128 * ((i 0).val / 4 % 2) := by decide +kernel

theorem step_lt (i : grid0.Coords) : (i 0).val < 48 := (i 0).isLt

/-! ## The step's numbers -/

theorem col_lt' (n : ℕ) (R : Fin 32) : 128 * (n / 4 % 2) + (R.val + 32 * (n % 4)) < 256 := by omega

/-- The gradients of the step's rows, from its blocks. -/
def stepG (k0 k1 : BitVec 32) (n : ℕ) (hn : n < 48) (x1 : FVec Ideal S6x256 .f32) (x2 : FVec Ideal S32x18432 .fp8e5m2)
    (x3 : FVec Ideal S32x18432 .bf16) : S32x18432.Idx → EReal :=
  gradAt k0 k1 n (fun R => x1 (ix2 ⟨n / 8, batch_lt n hn⟩ ⟨128 * (n / 4 % 2) + (R.val + 32 * (n % 4)), col_lt' n R⟩)) x2 x3

/-- The level of the step's row `R`. -/
def stepLevel (k0 k1 : BitVec 32) (n : ℕ) (hn : n < 48) (x1 : FVec Ideal S6x256 .f32) (x2 : FVec Ideal S32x18432 .fp8e5m2)
    (x3 : FVec Ideal S32x18432 .bf16) (R : Fin 32) : EReal :=
  level fun c => stepG k0 k1 n hn x1 x2 x3 (ix2 R c)

/-- The code of an entry of the step. -/
def stepCode (k0 k1 : BitVec 32) (n : ℕ) (hn : n < 48) (x1 : FVec Ideal S6x256 .f32) (x2 : FVec Ideal S32x18432 .fp8e5m2)
    (x3 : FVec Ideal S32x18432 .bf16) (y : S32x18432.Idx) : EReal :=
  code (stepG k0 k1 n hn x1 x2 x3 y) (kinv (stepLevel k0 k1 n hn x1 x2 x3 (y 0)))

variable (c : Dev nD) (i : grid0.Coords) (arg1 : Memref sig .tc .smem S2 .i32)
  (harg1 : arg1.IsWhole) (arg2 : Memref sig .tc .vmem S6x256 .f32) (harg2 : arg2.IsWhole) (arg3 : Memref sig .tc
  .vmem S32x18432 .fp8e5m2) (harg3 : arg3.IsWhole) (arg4 : Memref sig .tc .vmem S32x18432 .bf16) (harg4 :
  arg4.IsWhole) (arg5 : Memref sig .tc .vmem S32x18432 .fp8e5m2) (harg5 : arg5.IsWhole) (arg6 : Memref sig .tc
  .vmem S6x256 .f32) (harg6 : arg6.IsWhole) (arg7 : Memref sig .tc .vmem S32x18432 .f32) (harg7 : arg7.IsWhole)
  (x0 : Vec Ideal S2 .i32) (x1 : Vec Ideal S6x256 .f32) (x2 : Vec Ideal S32x18432 .fp8e5m2) (x3 : Vec Ideal S32x18432 .bf16)

/-- The first loop's state, the high word of the first product as a word of its own. -/
abbrev body1 (r r1 hi : BitVec 32) (v112 : FVec Ideal S32x128 .f32) : FVec Ideal S32x128 .f32 × List (View.Piece (Elt Ideal) S32x18432 .f32) :=
  st_k0_t1 (F := Ideal) Variants.none c none i arg1 harg1 arg2 harg2 arg3 harg3 arg4 harg4 arg5 harg5 arg6 harg6 arg7 harg7 (BitVec.ofNat 32 (i 0).val)
    (keys r r1).k4 (keys r r1).k5 (keys r r1).k6 (keys r r1).k7 (keys r r1).k8 (keys r r1).k9 (keys r r1).k10 (keys r r1).k11
    (keys r r1).k12 (keys r r1).k13 (keys r r1).k14 (keys r r1).k15 (keys r r1).k16 (keys r r1).k17 (keys r r1).k18
    (keys r r1).k19 (keys r r1).k20 (keys r r1).k21 (keys r r1).k22 hi (keys r r1).q lanes subs v112
    (harg3.unread x2) (harg4.unread x3) k0_pay322 k0_t1_loop.trips

/-- The high word as the kernel computes it on words. -/
def hiS (r : BitVec 32) : BitVec 32 :=
  53841#32 * (r >>> 16) + ((53841#32 * (r &&& 65535#32) + (8019#32 * (r >>> 16) +
      ((8019#32 * (r &&& 65535#32)) >>> 16))) >>> 16)

/-- The step's row scales, as read from the scales' block. -/
abbrev scalesRead (a b : BitVec 32) : FVec Ideal S32x128 .f32 :=
  k0_pay318 a b (View.readAt (Elt Ideal) arg2.view (Rect.unit (s := S6x256) (k0_off1 i) S6x128.size (k0_off1_inb i)).toLoadRect (harg2.unread x1))

/-- The first loop's state in the step. -/
abbrev state1 (k0 k1 : BitVec 32) (x1 : Vec Ideal S6x256 .f32) (x2 : Vec Ideal S32x18432 .fp8e5m2) (x3 : Vec Ideal S32x18432 .bf16) (a b : BitVec 32) : FVec Ideal S32x128 .f32 × List (View.Piece (Elt Ideal) S32x18432 .f32) :=
  body1 c i arg1 harg1 arg2 harg2 arg3 harg3 arg4 harg4 arg5 harg5 arg6 harg6 arg7 harg7 x2 x3 k0 k1 (hiS k0)
    (scalesRead i arg2 harg2 x1 a b)

/-- The second loop's pieces in the step. -/
abbrev codes2 (fs0 : BufTy.Contents (Elt Ideal) arg7.view.ty) (h l a b : BitVec 32) (S : FVec Ideal S32x128 .f32 × List (View.Piece (Elt Ideal) S32x18432 .f32)) :
    List (View.Piece (Elt Ideal) S32x18432 .fp8e5m2) :=
  loop2 Variants.none c none i arg1 harg1 arg2 harg2 arg3 harg3 arg4 harg4 arg5 harg5 arg6 harg6 arg7 harg7 h l (k0_pay316 a) (k0_pay317 b)
    (k0_pay326 S.1) (k0_pay330 (k0_pay326 S.1) k0_pay327 k0_pay328 (k0_pay329 S.1)) (k0_pay331 (k0_pay326 S.1) k0_pay327 k0_pay328 (k0_pay329 S.1)) k0_pay332
    (arg7.view.writes (Elt Ideal) fs0 S.2) k0_t2_loop.trips

/-- The scales' row that the step stores. -/
abbrev scales2 (l a b : BitVec 32) (S : FVec Ideal S32x128 .f32 × List (View.Piece (Elt Ideal) S32x18432 .f32)) (old : FVec Ideal S6x128 .f32) :
    FVec Ideal S6x128 .f32 :=
  k0_pay1 (k0_pay336 (k0_pay317 b) (k0_pay326 S.1) (k0_pay330 (k0_pay326 S.1) k0_pay327 k0_pay328 (k0_pay329 S.1))
    (k0_pay331 (k0_pay326 S.1) k0_pay327 k0_pay328 (k0_pay329 S.1)) k0_pay332) (k0_pay337 l (k0_pay316 a)) old

theorem seed0_A : kernelRun0_A.sl.r (F := Ideal) c arg1 harg1 x0 = x0 (ix1 0) := by
  refine (harg1.readAt_unread (Val := Elt Ideal) x0 (Rect.unit (s := S2) ![0] S1.size inb_S2_S1_0).toLoadRect _).trans (congrArg x0 ?_)
  funext a; match a with | ⟨0, _⟩ => rfl
theorem seed1_A : kernelRun0_A.sl.r_1 (F := Ideal) c arg1 harg1 x0 = x0 (ix1 1) := by
  refine (harg1.readAt_unread (Val := Elt Ideal) x0 (Rect.unit (s := S2) ![1] S1.size inb_S2_S1_1).toLoadRect _).trans (congrArg x0 ?_)
  funext a; match a with | ⟨0, _⟩ => rfl
theorem seed0_B : kernelRun0_B.sl.r (F := Ideal) c arg1 harg1 x0 = x0 (ix1 0) := by
  refine (harg1.readAt_unread (Val := Elt Ideal) x0 (Rect.unit (s := S2) ![0] S1.size inb_S2_S1_0).toLoadRect _).trans (congrArg x0 ?_)
  funext a; match a with | ⟨0, _⟩ => rfl
theorem seed1_B : kernelRun0_B.sl.r_1 (F := Ideal) c arg1 harg1 x0 = x0 (ix1 1) := by
  refine (harg1.readAt_unread (Val := Elt Ideal) x0 (Rect.unit (s := S2) ![1] S1.size inb_S2_S1_1).toLoadRect _).trans (congrArg x0 ?_)
  funext a; match a with | ⟨0, _⟩ => rfl

/-- The codes' pieces of the first step. -/
theorem pieces4_A_eq (hc0 : cond0_0 i) (fs0 : BufTy.Contents (Elt Ideal) arg7.view.ty) :
    (kernelRun0_A (F := Ideal) c i arg1 harg1 arg2 harg2 arg3 harg3 arg4 harg4 arg5 harg5 arg6 harg6 arg7 harg7 hc0 x0 x1 x2 x3 fs0).1
      = codes2 c i arg1 harg1 arg2 harg2 arg3 harg3 arg4 harg4 arg5 harg5 arg6 harg6 arg7 harg7 fs0 (kernelRun0_A.sl.v83 i) (w94 (i 0).val) (w54 (i 0).val) (w65 (i 0).val)
          (state1 c i arg1 harg1 arg2 harg2 arg3 harg3 arg4 harg4 arg5 harg5 arg6 harg6 arg7 harg7 (x0 (ix1 0)) (x0 (ix1 1)) x1 x2 x3 (w54 (i 0).val) (w65 (i 0).val)) := by
  rw [← batchA, ← firstA, ← laneA, ← seed0_A c arg1 harg1 x0, ← seed1_A c arg1 harg1 x0]
  sl_kernel_rfl

/-- The codes' pieces of a later step. -/
theorem pieces4_B_eq (hc0 : ¬cond0_0 i) (fs0 : BufTy.Contents (Elt Ideal) arg7.view.ty) (xo5 : Vec Ideal S6x256 .f32) :
    (kernelRun0_B (F := Ideal) c i arg1 harg1 arg2 harg2 arg3 harg3 arg4 harg4 arg5 harg5 arg6 harg6 arg7 harg7 hc0 x0 x1 x2 x3 fs0 xo5).1
      = codes2 c i arg1 harg1 arg2 harg2 arg3 harg3 arg4 harg4 arg5 harg5 arg6 harg6 arg7 harg7 fs0 (kernelRun0_B.sl.v83 i) (w94 (i 0).val) (w54 (i 0).val) (w65 (i 0).val)
          (state1 c i arg1 harg1 arg2 harg2 arg3 harg3 arg4 harg4 arg5 harg5 arg6 harg6 arg7 harg7 (x0 (ix1 0)) (x0 (ix1 1)) x1 x2 x3 (w54 (i 0).val) (w65 (i 0).val)) := by
  rw [← batchB, ← firstB, ← laneB, ← seed0_B c arg1 harg1 x0, ← seed1_B c arg1 harg1 x0]
  sl_kernel_rfl

/-- The 6 × 128 window of the scales that the step reads and writes. -/
abbrev win : Rect S6x256 := Rect.unit (s := S6x256) (k0_off1 i) S6x128.size (k0_off1_inb i)

/-- The scales' block of zeros that the first step stores. -/
abbrev zeros : View.Piece (Elt Ideal) S6x256 .f32 := ⟨Rect.unit ![0, 0] S6x256.size inb_S6x256_S6x256_0_0, k0_pay315 (F := Ideal)⟩

/-- The scales' pieces of the first step. -/
theorem pieces5_A_eq (hc0 : cond0_0 i) (fs0 : BufTy.Contents (Elt Ideal) arg7.view.ty) :
    (kernelRun0_A (F := Ideal) c i arg1 harg1 arg2 harg2 arg3 harg3 arg4 harg4 arg5 harg5 arg6 harg6 arg7 harg7 hc0 x0 x1 x2 x3 fs0).2.1
      = [(⟨win i, scales2 (w94 (i 0).val) (w54 (i 0).val) (w65 (i 0).val) (state1 c i arg1 harg1 arg2 harg2 arg3 harg3 arg4 harg4 arg5 harg5 arg6 harg6 arg7 harg7 (x0 (ix1 0)) (x0 (ix1 1)) x1 x2 x3 (w54 (i 0).val) (w65 (i 0).val))
          (View.readAt (Elt Ideal) arg6.view (win i).toLoadRect (arg6.view.writes (Elt Ideal) arg6.view.junk [zeros]))⟩ : View.Piece (Elt Ideal) S6x256 .f32), zeros] := by
  rw [← batchA, ← firstA, ← laneA, ← seed0_A c arg1 harg1 x0, ← seed1_A c arg1 harg1 x0]
  sl_kernel_rfl

/-- The scales' pieces of a later step. -/
theorem pieces5_B_eq (hc0 : ¬cond0_0 i) (fs0 : BufTy.Contents (Elt Ideal) arg7.view.ty) (xo5 : Vec Ideal S6x256 .f32) :
    (kernelRun0_B (F := Ideal) c i arg1 harg1 arg2 harg2 arg3 harg3 arg4 harg4 arg5 harg5 arg6 harg6 arg7 harg7 hc0 x0 x1 x2 x3 fs0 xo5).2.1
      = [(⟨win i, scales2 (w94 (i 0).val) (w54 (i 0).val) (w65 (i 0).val) (state1 c i arg1 harg1 arg2 harg2 arg3 harg3 arg4 harg4 arg5 harg5 arg6 harg6 arg7 harg7 (x0 (ix1 0)) (x0 (ix1 1)) x1 x2 x3 (w54 (i 0).val) (w65 (i 0).val))
          (View.readAt (Elt Ideal) arg6.view (win i).toLoadRect (harg6.unread xo5))⟩ : View.Piece (Elt Ideal) S6x256 .f32)] := by
  rw [← batchB, ← firstB, ← laneB, ← seed0_B c arg1 harg1 x0, ← seed1_B c arg1 harg1 x0]
  sl_kernel_rfl

/-! ## The state at an index -/

theorem hiS_eq (r : BitVec 32) : hiS r = hi0 r := hi0_parts r

theorem state1_eq (a b : BitVec 32) :
    state1 c i arg1 harg1 arg2 harg2 arg3 harg3 arg4 harg4 arg5 harg5 arg6 harg6 arg7 harg7 (x0 (ix1 0)) (x0 (ix1 1)) x1 x2 x3 a b
      = loop1 (x0 (ix1 0)) (x0 (ix1 1)) (i 0).val (scalesRead i arg2 harg2 x1 a b) arg3 harg3 arg4 harg4 x2 x3 Variants.none c none i
          arg1 harg1 arg2 harg2 arg5 harg5 arg6 harg6 arg7 harg7 k0_t1_loop.trips := by
  unfold state1
  rw [hiS_eq]
  rfl

theorem win_emb (b : Fin 6) (l : Fin 128) (h : 128 * ((i 0).val / 4 % 2) + l.val < 256) :
    (win i).emb (ix2 b l) = ix2 b ⟨128 * ((i 0).val / 4 % 2) + l.val, h⟩ := by
  funext a
  apply Fin.ext
  rw [Rect.emb_apply]
  match a with
  | ⟨0, _⟩ => show k0_off1 i 0 + 1 * b.val = b.val; rw [off1_0]; omega
  | ⟨1, _⟩ => show k0_off1 i 1 + 1 * l.val = _; rw [off1_1, Nat.one_mul]

theorem lane2_lt (n : ℕ) (l : Fin 128) : 128 * (n / 4 % 2) + l.val < 256 := by omega

theorem scalesRead_at (R : Fin 32) (l : Fin 128) :
    k0_pay319 (scalesRead i arg2 harg2 x1 (w54 (i 0).val) (w65 (i 0).val)) (ix2 R l)
      = x1 (ix2 ⟨(i 0).val / 8, batch_lt _ (step_lt i)⟩ ⟨128 * ((i 0).val / 4 % 2) + (R.val + 32 * ((i 0).val % 4)), col_lt' _ R⟩) := by
  refine (pay319_at (i 0).val (step_lt i) _ R l).trans ?_
  refine (harg2.readAt_unread (Val := Elt Ideal) x1 (win i).toLoadRect (ix2 (n0 := 6) (n1 := 128) ⟨(i 0).val / 8, batch_lt _ (step_lt i)⟩ ⟨R.val + 32 * ((i 0).val % 4), lane_lt _ R⟩)).trans ?_
  exact congrArg x1 (win_emb i _ _ (lane2_lt _ _))

theorem state1_pieces : ∀ p ∈ (state1 c i arg1 harg1 arg2 harg2 arg3 harg3 arg4 harg4 arg5 harg5 arg6 harg6 arg7 harg7 (x0 (ix1 0)) (x0 (ix1 1)) x1 x2 x3 (w54 (i 0).val) (w65 (i 0).val)).2, ∀ x : p.1.shape.Idx,
    p.2 x = stepG (x0 (ix1 0)) (x0 (ix1 1)) (i 0).val (step_lt i) x1 x2 x3 (p.1.emb x) := by
  rw [state1_eq]
  exact loop1_pieces _ _ _ _ _ arg3 harg3 arg4 harg4 x2 x3 _ _ _ _ arg1 harg1 arg2 harg2 arg5 harg5 arg6 harg6 arg7 harg7
    (scalesRead_at i arg2 harg2 x1) _ (Nat.le_refl _)

theorem state1_level (R : Fin 32) (l : Fin 128) :
    k0_pay326 (state1 c i arg1 harg1 arg2 harg2 arg3 harg3 arg4 harg4 arg5 harg5 arg6 harg6 arg7 harg7 (x0 (ix1 0)) (x0 (ix1 1)) x1 x2 x3 (w54 (i 0).val) (w65 (i 0).val)).1 (ix2 R l) = stepLevel (x0 (ix1 0)) (x0 (ix1 1)) (i 0).val (step_lt i) x1 x2 x3 R := by
  rw [state1_eq]
  refine level_at _ (stepG (x0 (ix1 0)) (x0 (ix1 1)) (i 0).val (step_lt i) x1 x2 x3) (fun y z => ?_) R l
  refine (loop1_max _ _ _ _ _ arg3 harg3 arg4 harg4 x2 x3 _ _ _ _ arg1 harg1 arg2 harg2 arg5 harg5 arg6 harg6 arg7 harg7
    (scalesRead_at i arg2 harg2 x1) _ (Nat.le_refl _) y z).trans ?_
  exact ⟨fun h => ⟨h.1, fun k r => h.2 k r k.isLt⟩, fun h => ⟨h.1, fun k r _ => h.2 k r⟩⟩

theorem state1_cover (a b : BitVec 32) (y : S32x18432.Idx) : ∃ p ∈ (state1 c i arg1 harg1 arg2 harg2 arg3 harg3 arg4 harg4 arg5 harg5 arg6 harg6 arg7 harg7 (x0 (ix1 0)) (x0 (ix1 1)) x1 x2 x3 a b).2, y ∈ p.1.set :=
  View.cover_of_tiledL (state1 c i arg1 harg1 arg2 harg2 arg3 harg3 arg4 harg4 arg5 harg5 arg6 harg6 arg7 harg7 (x0 (ix1 0)) (x0 (ix1 1)) x1 x2 x3 a b).2 S32x128.size (by sl_kernel_rfl) y

/-- **The codes' pieces hold the codes.** -/
theorem codes2_pieces (fs0 : BufTy.Contents (Elt Ideal) arg7.view.ty) (h l : BitVec 32) :
    ∀ p ∈ codes2 c i arg1 harg1 arg2 harg2 arg3 harg3 arg4 harg4 arg5 harg5 arg6 harg6 arg7 harg7 fs0 h l (w54 (i 0).val) (w65 (i 0).val) (state1 c i arg1 harg1 arg2 harg2 arg3 harg3 arg4 harg4 arg5 harg5 arg6 harg6 arg7 harg7 (x0 (ix1 0)) (x0 (ix1 1)) x1 x2 x3 (w54 (i 0).val) (w65 (i 0).val)),
      ∀ x : p.1.shape.Idx, p.2 x = stepCode (x0 (ix1 0)) (x0 (ix1 1)) (i 0).val (step_lt i) x1 x2 x3 (p.1.emb x) := by
  refine loop2_pieces Variants.none c none i arg1 harg1 arg2 harg2 arg3 harg3 arg4 harg4 arg5 harg5 arg6 harg6 arg7 harg7 _ _ _ _ _ _ _ _ _
    (stepG (x0 (ix1 0)) (x0 (ix1 1)) (i 0).val (step_lt i) x1 x2 x3) (fun R => kinv (stepLevel (x0 (ix1 0)) (x0 (ix1 1)) (i 0).val (step_lt i) x1 x2 x3 R))
    ?_ ?_ _ (Nat.le_refl _)
  · intro y
    exact View.read_writes_apply_of_pieces _ _ _ _ (state1_pieces c i arg1 harg1 arg2 harg2 arg3 harg3 arg4 harg4 arg5 harg5 arg6 harg6 arg7 harg7 x0 x1 x2 x3) y (state1_cover c i arg1 harg1 arg2 harg2 arg3 harg3 arg4 harg4 arg5 harg5 arg6 harg6 arg7 harg7 x0 x1 x2 x3 _ _ y)
  · intro R l
    rw [inv_at, state1_level]

/-- **The stored scales**: lane `l` of batch `b`. -/
theorem scales2_at (old : FVec Ideal S6x128 .f32) (b : Fin 6) (l : Fin 128) :
    scales2 (w94 (i 0).val) (w54 (i 0).val) (w65 (i 0).val) (state1 c i arg1 harg1 arg2 harg2 arg3 harg3 arg4 harg4 arg5 harg5 arg6 harg6 arg7 harg7 (x0 (ix1 0)) (x0 (ix1 1)) x1 x2 x3 (w54 (i 0).val) (w65 (i 0).val)) old (ix2 b l)
      = if b.val = (i 0).val / 8 ∧ l.val / 32 = (i 0).val % 4 then
          kscale (stepLevel (x0 (ix1 0)) (x0 (ix1 1)) (i 0).val (step_lt i) x1 x2 x3 ⟨l.val % 32, Nat.mod_lt _ (by decide)⟩)
        else old (ix2 b l) := by
  refine (pay1_at _ _ _ b l).trans ?_
  rw [mine_at _ (step_lt i)]
  by_cases h : b.val = (i 0).val / 8 ∧ l.val / 32 = (i 0).val % 4
  · rw [if_pos h, decide_eq_true h.1, decide_eq_true (by omega)]
    have e : l = ⟨(⟨l.val % 32, Nat.mod_lt _ (by decide)⟩ : Fin 32).val + 32 * ((i 0).val % 4), lane_lt _ _⟩ := Fin.ext (by
      show l.val = l.val % 32 + 32 * ((i 0).val % 4); omega)
    have hp := pay336_at (i 0).val (step_lt i) (state1 c i arg1 harg1 arg2 harg2 arg3 harg3 arg4 harg4 arg5 harg5 arg6 harg6 arg7 harg7 (x0 (ix1 0)) (x0 (ix1 1)) x1 x2 x3 (w54 (i 0).val) (w65 (i 0).val)).1 ⟨l.val % 32, Nat.mod_lt _ (by decide)⟩
    rw [state1_level, ← e] at hp
    exact hp
  · rw [if_neg h]
    have e : (decide (b.val = (i 0).val / 8) && decide (32 * ((i 0).val % 4) ≤ l.val ∧ l.val < 32 * ((i 0).val % 4) + 32)) = false := by
      rw [Bool.and_eq_false_iff, decide_eq_false_iff_not, decide_eq_false_iff_not]
      by_cases hb : b.val = (i 0).val / 8
      · exact .inr fun hl => h ⟨hb, by omega⟩
      · exact .inl hb
    rw [e]
    rfl

/-! ## The blocks after a step -/

/-- **The codes after the first step.** -/
theorem outA_4_at (hc0 : cond0_0 i) (y : S32x18432.Idx) :
    out0_A_4 c i arg1 harg1 arg2 harg2 arg3 harg3 arg4 harg4 arg5 harg5 arg6 harg6 arg7 harg7 hc0 x0 x1 x2 x3 y = stepCode (x0 (ix1 0)) (x0 (ix1 1)) (i 0).val (step_lt i) x1 x2 x3 y := by
  unfold out0_A_4
  refine View.read_writes_apply_of_pieces _ _ (stepCode (x0 (ix1 0)) (x0 (ix1 1)) (i 0).val (step_lt i) x1 x2 x3) _ ?_ y (cover0_A_4 c i arg1 harg1 arg2 harg2 arg3 harg3 arg4 harg4 arg5 harg5 arg6 harg6 arg7 harg7 hc0 x0 x1 x2 x3 _ y)
  rw [pieces4_A_eq]
  exact codes2_pieces c i arg1 harg1 arg2 harg2 arg3 harg3 arg4 harg4 arg5 harg5 arg6 harg6 arg7 harg7 x0 x1 x2 x3 _ _ _

/-- **The codes after a later step.** -/
theorem outB_4_at (hc0 : ¬cond0_0 i) (xo5 : Vec Ideal S6x256 .f32) (y : S32x18432.Idx) :
    out0_B_4 c i arg1 harg1 arg2 harg2 arg3 harg3 arg4 harg4 arg5 harg5 arg6 harg6 arg7 harg7 hc0 x0 x1 x2 x3 xo5 y = stepCode (x0 (ix1 0)) (x0 (ix1 1)) (i 0).val (step_lt i) x1 x2 x3 y := by
  unfold out0_B_4
  refine View.read_writes_apply_of_pieces _ _ (stepCode (x0 (ix1 0)) (x0 (ix1 1)) (i 0).val (step_lt i) x1 x2 x3) _ ?_ y (cover0_B_4 c i arg1 harg1 arg2 harg2 arg3 harg3 arg4 harg4 arg5 harg5 arg6 harg6 arg7 harg7 hc0 x0 x1 x2 x3 _ xo5 y)
  rw [pieces4_B_eq]
  exact codes2_pieces c i arg1 harg1 arg2 harg2 arg3 harg3 arg4 harg4 arg5 harg5 arg6 harg6 arg7 harg7 x0 x1 x2 x3 _ _ _

/-- The scales' block after a step that found `old` in it. -/
def newScales (k0 k1 : BitVec 32) (n : ℕ) (hn : n < 48) (x1 : FVec Ideal S6x256 .f32) (x2 : FVec Ideal S32x18432 .fp8e5m2)
    (x3 : FVec Ideal S32x18432 .bf16) (old : EReal) (b : Fin 6) (s : Fin 256) : EReal :=
  if (256 * b.val + s.val) / 32 = n then kscale (stepLevel k0 k1 n hn x1 x2 x3 ⟨s.val % 32, Nat.mod_lt _ (by decide)⟩) else old

/-- A block that was written through the step's window: inside it the written value, outside what was there. -/
theorem read_win {κ : Kind} {sp : Space} (v : View sig κ sp S6x256 .f32) (f : v.ty.Contents (Elt Ideal)) (w : FVec Ideal S6x128 .f32)
    (L : List (View.Piece (Elt Ideal) S6x256 .f32)) (b : Fin 6) (s : Fin 256) :
    v.read (Elt Ideal) (v.writes (Elt Ideal) f ((⟨win i, w⟩ : View.Piece (Elt Ideal) S6x256 .f32) :: L)) (ix2 b s)
      = if s.val / 128 = (i 0).val / 4 % 2 then w (ix2 b ⟨s.val % 128, Nat.mod_lt _ (by decide)⟩)
        else v.read (Elt Ideal) (v.writes (Elt Ideal) f L) (ix2 b s) := by
  by_cases h : s.val / 128 = (i 0).val / 4 % 2
  · rw [if_pos h]
    refine View.read_writes_cons_hit_of_coords v f (win i) w L (ix2 (n0 := 6) (n1 := 128) b ⟨s.val % 128, Nat.mod_lt _ (by decide)⟩) (ix2 b s) ?_
    intro a
    match a with
    | ⟨0, _⟩ => show b.val = k0_off1 i 0 + 1 * b.val; rw [off1_0]; omega
    | ⟨1, _⟩ => show s.val = k0_off1 i 1 + 1 * (s.val % 128); rw [off1_1]; omega
  · rw [if_neg h]
    refine View.read_writes_cons_miss_of_axis v f ⟨win i, w⟩ L (ix2 b s) (1 : Fin 2) (128 * ((i 0).val / 4 % 2)) 128 (off1_1 i) rfl rfl ?_
    show s.val < _ ∨ _ ≤ s.val
    have := s.isLt
    omega

/-- The same with the step's scales. -/
theorem read_scales {κ : Kind} {sp : Space} (v : View sig κ sp S6x256 .f32) (f : v.ty.Contents (Elt Ideal)) (L : List (View.Piece (Elt Ideal) S6x256 .f32))
    (old : FVec Ideal S6x128 .f32) (b : Fin 6) (s : Fin 256) (z : EReal)
    (hold : s.val / 128 = (i 0).val / 4 % 2 → old (ix2 b ⟨s.val % 128, Nat.mod_lt _ (by decide)⟩) = z)
    (hz : v.read (Elt Ideal) (v.writes (Elt Ideal) f L) (ix2 b s) = z) :
    v.read (Elt Ideal) (v.writes (Elt Ideal) f ((⟨win i, scales2 (w94 (i 0).val) (w54 (i 0).val) (w65 (i 0).val)
        (state1 c i arg1 harg1 arg2 harg2 arg3 harg3 arg4 harg4 arg5 harg5 arg6 harg6 arg7 harg7 (x0 (ix1 0)) (x0 (ix1 1)) x1 x2 x3 (w54 (i 0).val) (w65 (i 0).val)) old⟩ : View.Piece (Elt Ideal) S6x256 .f32) :: L)) (ix2 b s)
      = newScales (x0 (ix1 0)) (x0 (ix1 1)) (i 0).val (step_lt i) x1 x2 x3 z b s := by
  have hs := s.isLt
  have hb := b.isLt
  have hi := step_lt i
  rw [read_win]
  unfold newScales
  by_cases h : s.val / 128 = (i 0).val / 4 % 2
  · rw [if_pos h, scales2_at, hold h]
    have e : (⟨(⟨s.val % 128, Nat.mod_lt _ (by decide)⟩ : Fin 128).val % 32, Nat.mod_lt _ (by decide)⟩ : Fin 32) = ⟨s.val % 32, Nat.mod_lt _ (by decide)⟩ :=
      Fin.ext (by show s.val % 128 % 32 = s.val % 32; omega)
    rw [e]
    refine if_congr ?_ rfl rfl
    show b.val = _ ∧ s.val % 128 / 32 = _ ↔ _
    omega
  · rw [if_neg h, hz, if_neg (by omega)]

theorem read_zeros {κ : Kind} {sp : Space} (v : View sig κ sp S6x256 .f32) (f : v.ty.Contents (Elt Ideal)) (y : S6x256.Idx) :
    v.read (Elt Ideal) (v.writes (Elt Ideal) f [zeros]) y = 0 := by
  refine (View.read_writes_cons_hit_of_coords v f zeros.1 zeros.2 [] y y ?_).trans Ideal.ofBits_zero_f32
  intro a
  match a with
  | ⟨0, _⟩ => show (y 0).val = 0 + 1 * (y 0).val; omega
  | ⟨1, _⟩ => show (y 1).val = 0 + 1 * (y 1).val; omega

/-- **The scales after the first step.** -/
theorem outA_5_at (hc0 : cond0_0 i) (b : Fin 6) (s : Fin 256) :
    out0_A_5 c i arg1 harg1 arg2 harg2 arg3 harg3 arg4 harg4 arg5 harg5 arg6 harg6 arg7 harg7 hc0 x0 x1 x2 x3 (ix2 b s) = newScales (x0 (ix1 0)) (x0 (ix1 1)) (i 0).val (step_lt i) x1 x2 x3 0 b s := by
  unfold out0_A_5
  rw [pieces5_A_eq]
  exact read_scales c i arg1 harg1 arg2 harg2 arg3 harg3 arg4 harg4 arg5 harg5 arg6 harg6 arg7 harg7 x0 x1 x2 x3 _ _ _ _ b s 0 (fun _ => read_zeros _ _ _) (read_zeros _ _ _)

/-- **The scales after a later step.** -/
theorem outB_5_at (hc0 : ¬cond0_0 i) (xo5 : Vec Ideal S6x256 .f32) (b : Fin 6) (s : Fin 256) :
    out0_B_5 c i arg1 harg1 arg2 harg2 arg3 harg3 arg4 harg4 arg5 harg5 arg6 harg6 arg7 harg7 hc0 x0 x1 x2 x3 xo5 (ix2 b s) = newScales (x0 (ix1 0)) (x0 (ix1 1)) (i 0).val (step_lt i) x1 x2 x3 (xo5 (ix2 b s)) b s := by
  unfold out0_B_5
  rw [pieces5_B_eq]
  refine read_scales c i arg1 harg1 arg2 harg2 arg3 harg3 arg4 harg4 arg5 harg5 arg6 harg6 arg7 harg7 x0 x1 x2 x3 _ _ _ _ b s _ (fun h => ?_) (congrFun (harg6.read_unread xo5) _)
  refine (harg6.readAt_unread (Val := Elt Ideal) xo5 (win i).toLoadRect (ix2 (n0 := 6) (n1 := 128) b ⟨s.val % 128, Nat.mod_lt _ (by decide)⟩)).trans ?_
  refine congrArg xo5 ((win_emb i b ⟨s.val % 128, Nat.mod_lt _ (by decide)⟩ (lane2_lt _ _)).trans (congrArg (ix2 b) (Fin.ext ?_)))
  show 128 * ((i 0).val / 4 % 2) + s.val % 128 = s.val
  omega

end Cert.KernelIdeal.Value
-- ==== Proof.Whole.lean ====
/- What both programs compute, as one function of the arguments: the codes and the scales of every row. -/
module

public import proofs.«01_k».proof.Proof.Spec

@[expose] public section

noncomputable section

namespace Cert.Spec

open Idealize.ShloMosaic Cert.Words Cert.Scale

/-- The gradients of row `s` of batch `b`. -/
def rowOf (k0 k1 : BitVec 32) (dy g : Fin 6 → Fin 256 → Fin 18432 → EReal) (sc : Fin 6 → Fin 256 → EReal)
    (b : Fin 6) (s : Fin 256) (c : Fin 18432) : EReal :=
  grad k0 k1 (256 * b.val + s.val) c.val (dy b s c) (sc b s) (g b s c)

/-- The scale of row `s` of batch `b`. -/
def scaleOf (k0 k1 : BitVec 32) (dy g : Fin 6 → Fin 256 → Fin 18432 → EReal) (sc : Fin 6 → Fin 256 → EReal)
    (b : Fin 6) (s : Fin 256) : EReal :=
  rscale (level (rowOf k0 k1 dy g sc b s))

/-- The code of an entry. -/
def codeOf (k0 k1 : BitVec 32) (dy g : Fin 6 → Fin 256 → Fin 18432 → EReal) (sc : Fin 6 → Fin 256 → EReal)
    (b : Fin 6) (s : Fin 256) (c : Fin 18432) : EReal :=
  code (rowOf k0 k1 dy g sc b s c) (Ideal.div (Ideal.ofBits .f32 0x3F800000#32) (scaleOf k0 k1 dy g sc b s))

end Cert.Spec
-- ==== Proof.Blocks.lean ====
/- The blocks a grid step of the kernel is given, as the arguments' entries. -/
module

public import proofs.«01_k».proof.Proof.Step
public import proofs.«01_k».proof.Proof.Whole
public import proofs.«01_k».proof.Proof.KernelIdealFrame

@[expose] public section

set_option maxRecDepth 16384

noncomputable section

namespace Cert.KernelIdeal.Value

open Cert.KernelIdeal.Gen Cert.KernelIdeal Cert.KernelIdeal.Body
open Idealize.ShloMosaic Idealize.ShloMosaic.TcCoe Idealize.ShloMosaic.ValueIdx Idealize.ShloMosaic.Tactic
open Idealize.SL Idealize.SL.Sem
open Cert.Words Cert.Spec Cert.Scale

variable (m : (ℓ : Loc nD τ sig) → Buf (Elt Ideal) ℓ) (c : Dev nD)

theorem t_lt (t : Fin cfg0.N) : t.val < 48 := lt_of_lt_of_eq t.isLt N_0

theorem coord0 : ∀ t : Fin cfg0.N, (grid0.coords t 0).val = t.val := by
  exact (by decide +kernel : ∀ t : Fin grid0.N, (grid0.coords t 0).val = t.val)

theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index0 : ∀ t : Fin cfg0.N, win0_0.index t = ![0] := (by decide +kernel : ∀ t : Fin grid0.N, win0_0.index t = ![0])
theorem index1 : ∀ t : Fin cfg0.N, win0_1.index t = ![0, 0] := (by decide +kernel : ∀ t : Fin grid0.N, win0_1.index t = ![0, 0])
theorem index5 : ∀ t : Fin cfg0.N, win0_5.index t = ![0, 0] := (by decide +kernel : ∀ t : Fin grid0.N, win0_5.index t = ![0, 0])

theorem row_lt (t : Fin cfg0.N) (R : Fin 32) : 32 * t.val + R.val < 1536 := by have := t_lt t; omega

theorem emb0 (t : Fin cfg0.N) (z : S2.Idx) : ((cfg0.win 0).blk t).view.emb z = z := by
  funext a
  apply Fin.ext
  refine (Pipeline.Window.rect_emb_val win0_0 t z a).trans ?_
  rw [index0]
  match a with
  | ⟨0, _⟩ => show 0 * 2 + (z 0).val = (z 0).val; omega

theorem emb1 (t : Fin cfg0.N) (z : S6x256.Idx) : ((cfg0.win 1).blk t).view.emb z = z := by
  funext a
  apply Fin.ext
  refine (Pipeline.Window.rect_emb_val win0_1 t z a).trans ?_
  rw [index1]
  match a with
  | ⟨0, _⟩ => show 0 * 6 + (z 0).val = (z 0).val; omega
  | ⟨1, _⟩ => show 0 * 256 + (z 1).val = (z 1).val; omega

theorem emb5 (t : Fin cfg0.N) (z : S6x256.Idx) : ((cfg0.win 5).blk t).view.emb z = z := by
  funext a
  apply Fin.ext
  refine (Pipeline.Window.rect_emb_val win0_5 t z a).trans ?_
  rw [index5]
  match a with
  | ⟨0, _⟩ => show 0 * 6 + (z 0).val = (z 0).val; omega
  | ⟨1, _⟩ => show 0 * 256 + (z 1).val = (z 1).val; omega

theorem emb2 (t : Fin cfg0.N) (R : Fin 32) (l : Fin 18432) :
    ((cfg0.win 2).blk t).view.emb (ix2 (n0 := 32) (n1 := 18432) R l) = ix2 (n0 := 1536) (n1 := 18432) ⟨32 * t.val + R.val, row_lt t R⟩ l := by
  funext a
  apply Fin.ext
  refine (Pipeline.Window.rect_emb_val win0_2 t (ix2 (n0 := 32) (n1 := 18432) R l) a).trans ?_
  rw [index2]
  match a with
  | ⟨0, _⟩ => show t.val * 32 + R.val = 32 * t.val + R.val; omega
  | ⟨1, _⟩ => show 0 * 18432 + l.val = l.val; omega

theorem emb3 (t : Fin cfg0.N) (R : Fin 32) (l : Fin 18432) :
    ((cfg0.win 3).blk t).view.emb (ix2 (n0 := 32) (n1 := 18432) R l) = ix2 (n0 := 1536) (n1 := 18432) ⟨32 * t.val + R.val, row_lt t R⟩ l := by
  funext a
  apply Fin.ext
  refine (Pipeline.Window.rect_emb_val win0_3 t (ix2 (n0 := 32) (n1 := 18432) R l) a).trans ?_
  rw [index3]
  match a with
  | ⟨0, _⟩ => show t.val * 32 + R.val = 32 * t.val + R.val; omega
  | ⟨1, _⟩ => show 0 * 18432 + l.val = l.val; omega

theorem emb4 (t : Fin cfg0.N) (R : Fin 32) (l : Fin 18432) :
    ((cfg0.win 4).blk t).view.emb (ix2 (n0 := 32) (n1 := 18432) R l) = ix2 (n0 := 1536) (n1 := 18432) ⟨32 * t.val + R.val, row_lt t R⟩ l := by
  funext a
  apply Fin.ext
  refine (Pipeline.Window.rect_emb_val win0_4 t (ix2 (n0 := 32) (n1 := 18432) R l) a).trans ?_
  rw [index4]
  match a with
  | ⟨0, _⟩ => show t.val * 32 + R.val = 32 * t.val + R.val; omega
  | ⟨1, _⟩ => show 0 * 18432 + l.val = l.val; omega

/-! ## The reshaped arguments -/

theorem V_v0 : Gen.V m c main_v0 = shapeCast (s := S6x256x18432) S1536x18432 (m ((c : Thread nD τ).loc main_arg0)) shapeCasts_S6x256x18432_S1536x18432 := by
  entry_read
  rfl

theorem V_v1 : Gen.V m c main_v1 = shapeCast (s := S6x256x18432) S1536x18432 (m ((c : Thread nD τ).loc main_arg3)) shapeCasts_S6x256x18432_S1536x18432 := by
  entry_read
  rfl

/-- A reshaped array at row `256 b + s`. -/
theorem flat_at {α : Type} (x : S6x256x18432.Idx → α) (n : Fin 1536) (l : Fin 18432) (b : Fin 6) (s : Fin 256) (h : n.val = 256 * b.val + s.val) :
    shapeCast S1536x18432 x shapeCasts_S6x256x18432_S1536x18432 (ix2 n l) = x (ix3 b s l) := by
  refine shapeCast_apply x _ _ _ ?_
  rw [Shape.rowMajor_val_three, Shape.rowMajor_val_two]
  show _ = n.val * 18432 + l.val
  rw [h]
  show (b.val * 256 + s.val) * 18432 + l.val = _
  omega

/-! ## The blocks -/

theorem iblk0_at (t : Fin cfg0.N) (z : S2.Idx) : iblk m c 0 t z = m ((c : Thread nD τ).loc main_arg2) z := by
  show Gen.V m c main_arg2 (((cfg0.win 0).blk t).view.emb z) = _
  rw [emb0, V_main_arg2]

theorem iblk1_at (t : Fin cfg0.N) (z : S6x256.Idx) : iblk m c 1 t z = m ((c : Thread nD τ).loc main_arg1) z := by
  show Gen.V m c main_arg1 (((cfg0.win 1).blk t).view.emb z) = _
  rw [emb1, V_main_arg1]

theorem iblk2_at (t : Fin cfg0.N) (R : Fin 32) (l : Fin 18432) (b : Fin 6) (s : Fin 256) (h : 32 * t.val + R.val = 256 * b.val + s.val) :
    iblk m c 2 t (ix2 (n0 := 32) (n1 := 18432) R l) = m ((c : Thread nD τ).loc main_arg0) (ix3 b s l) := by
  show Gen.V m c main_v0 (((cfg0.win 2).blk t).view.emb (ix2 (n0 := 32) (n1 := 18432) R l)) = _
  rw [emb2, V_v0]
  exact flat_at _ _ _ _ _ h

theorem iblk3_at (t : Fin cfg0.N) (R : Fin 32) (l : Fin 18432) (b : Fin 6) (s : Fin 256) (h : 32 * t.val + R.val = 256 * b.val + s.val) :
    iblk m c 3 t (ix2 (n0 := 32) (n1 := 18432) R l) = m ((c : Thread nD τ).loc main_arg3) (ix3 b s l) := by
  show Gen.V m c main_v1 (((cfg0.win 3).blk t).view.emb (ix2 (n0 := 32) (n1 := 18432) R l)) = _
  rw [emb3, V_v1]
  exact flat_at _ _ _ _ _ h

end Cert.KernelIdeal.Value
-- ==== Proof.Arrays.lean ====
/- The kernel's result arrays after the run, as the one function of the arguments. -/
module

public import proofs.«01_k».proof.Proof.Blocks
public import Idealize.ShloMosaic.Lib.Pipeline.Value

@[expose] public section

set_option maxRecDepth 16384

noncomputable section

namespace Cert.KernelIdeal.Value

open Cert.KernelIdeal.Gen Cert.KernelIdeal Cert.KernelIdeal.Body
open Idealize.ShloMosaic Idealize.ShloMosaic.TcCoe Idealize.ShloMosaic.ValueIdx Idealize.ShloMosaic.Tactic
open Idealize.SL Idealize.SL.Sem
open Idealize.ShloMosaic.Pipeline (Dat)
open Cert.Words Cert.Spec Cert.Scale

variable (m : (ℓ : Loc nD τ sig) → Buf (Elt Ideal) ℓ) (ρ : Dev nD → PrngReg) (c : Dev nD)

/-- The arguments by their coordinates. -/
def seedA (k : Fin 2) : BitVec 32 := m ((c : Thread nD τ).loc main_arg2) (ix1 k)
def dyA (b : Fin 6) (s : Fin 256) (l : Fin 18432) : EReal := m ((c : Thread nD τ).loc main_arg0) (ix3 b s l)
def scA (b : Fin 6) (s : Fin 256) : EReal := m ((c : Thread nD τ).loc main_arg1) (ix2 b s)
def gA (b : Fin 6) (s : Fin 256) (l : Fin 18432) : EReal := m ((c : Thread nD τ).loc main_arg3) (ix3 b s l)

/-- The scale and the code of the arguments. -/
def scaleA (b : Fin 6) (s : Fin 256) : EReal := scaleOf (seedA m c 0) (seedA m c 1) (dyA m c) (gA m c) (scA m c) b s
def codeA (b : Fin 6) (s : Fin 256) (l : Fin 18432) : EReal := codeOf (seedA m c 0) (seedA m c 1) (dyA m c) (gA m c) (scA m c) b s l

/-! ## One step -/

theorem stepG_at (t : Fin cfg0.N) (n : ℕ) (hn : n < 48) (e : n = t.val) (R : Fin 32) (b : Fin 6) (s : Fin 256)
    (h : 32 * t.val + R.val = 256 * b.val + s.val) (l : Fin 18432) :
    stepG (seedA m c 0) (seedA m c 1) n hn (iblk m c 1 t) (iblk m c 2 t) (iblk m c 3 t) (ix2 R l)
      = rowOf (seedA m c 0) (seedA m c 1) (dyA m c) (gA m c) (scA m c) b s l := by
  subst e
  have hR := R.isLt
  have hs := s.isLt
  have e2 := iblk2_at m c t R l b s h
  have e3 := iblk3_at m c t R l b s h
  have e1 := iblk1_at m c t (ix2 (n0 := 6) (n1 := 256) ⟨t.val / 8, batch_lt _ hn⟩ ⟨128 * (t.val / 4 % 2) + (R.val + 32 * (t.val % 4)), col_lt' _ R⟩)
  have hb : (⟨t.val / 8, batch_lt _ hn⟩ : Fin 6) = b := Fin.ext (by show t.val / 8 = b.val; omega)
  have hc : (⟨128 * (t.val / 4 % 2) + (R.val + 32 * (t.val % 4)), col_lt' _ R⟩ : Fin 256) = s :=
    Fin.ext (by show 128 * (t.val / 4 % 2) + (R.val + 32 * (t.val % 4)) = s.val; omega)
  rw [hb, hc] at e1
  show grad _ _ (32 * t.val + R.val) l.val (iblk m c 2 t (ix2 (n0 := 32) (n1 := 18432) R l))
    (iblk m c 1 t (ix2 (n0 := 6) (n1 := 256) ⟨t.val / 8, batch_lt _ hn⟩ ⟨128 * (t.val / 4 % 2) + (R.val + 32 * (t.val % 4)), col_lt' _ R⟩))
    (iblk m c 3 t (ix2 (n0 := 32) (n1 := 18432) R l)) = _
  rw [hb, hc, e1, e2, e3, h]
  rfl

theorem stepLevel_at (t : Fin cfg0.N) (n : ℕ) (hn : n < 48) (e : n = t.val) (R : Fin 32) (b : Fin 6) (s : Fin 256)
    (h : 32 * t.val + R.val = 256 * b.val + s.val) :
    kscale (stepLevel (seedA m c 0) (seedA m c 1) n hn (iblk m c 1 t) (iblk m c 2 t) (iblk m c 3 t) R) = scaleA m c b s := by
  rw [kscale_eq]
  exact congrArg (fun f => rscale (level f)) (funext fun l => stepG_at m c t n hn e R b s h l)

theorem stepCode_at (t : Fin cfg0.N) (n : ℕ) (hn : n < 48) (e : n = t.val) (R : Fin 32) (b : Fin 6) (s : Fin 256)
    (h : 32 * t.val + R.val = 256 * b.val + s.val) (l : Fin 18432) :
    stepCode (seedA m c 0) (seedA m c 1) n hn (iblk m c 1 t) (iblk m c 2 t) (iblk m c 3 t) (ix2 R l) = codeA m c b s l := by
  unfold stepCode codeA codeOf
  rw [stepG_at m c t n hn e R b s h l, kinv_eq]
  exact congrArg (fun z => code _ (Ideal.div _ z)) ((kscale_eq _).symm.trans (stepLevel_at m c t n hn e R b s h))

theorem newScales_at (t : Fin cfg0.N) (n : ℕ) (hn : n < 48) (e : n = t.val) (old : EReal) (b : Fin 6) (s : Fin 256)
    (ho : old = if 256 * b.val + s.val < 32 * t.val then scaleA m c b s else 0) :
    newScales (seedA m c 0) (seedA m c 1) n hn (iblk m c 1 t) (iblk m c 2 t) (iblk m c 3 t) old b s
      = if 256 * b.val + s.val < 32 * (t.val + 1) then scaleA m c b s else 0 := by
  unfold newScales
  by_cases h : (256 * b.val + s.val) / 32 = n
  · rw [if_pos h, if_pos (by omega)]
    refine stepLevel_at m c t n hn e _ b s ?_
    show 32 * t.val + s.val % 32 = _
    omega
  · rw [if_neg h, ho]
    exact if_congr (by omega) rfl rfl

theorem seed0 (t : Fin cfg0.N) (k : Fin 2) : iblk m c 0 t (ix1 (n := 2) k) = seedA m c k := iblk0_at m c t _

/-! ## All steps -/

/-- The codes a step leaves. -/
theorem codes_at (t : Fin cfg0.N) (R : Fin 32) (b : Fin 6) (s : Fin 256)
    (h : 32 * t.val + R.val = 256 * b.val + s.val) (l : Fin 18432) :
    (outsAt0 m c t.val t.isLt).1 (ix2 R l) = codeA m c b s l := by
  by_cases h0 : t.val % 48 = 0
  · rw [outsAt0_A m c t h0]
    refine (outA_4_at c (grid0.coords t) _ _ _ _ _ _ _ _ _ _ _ _ _ _ (iblk m c 0 t) (iblk m c 1 t) (iblk m c 2 t) (iblk m c 3 t) _ (ix2 R l)).trans ?_
    rw [seed0, seed0]
    exact stepCode_at m c t _ _ (coord0 t) R b s h l
  · rw [outsAt0_B m c t h0]
    refine (outB_4_at c (grid0.coords t) _ _ _ _ _ _ _ _ _ _ _ _ _ _ (iblk m c 0 t) (iblk m c 1 t) (iblk m c 2 t) (iblk m c 3 t) _ _ (ix2 R l)).trans ?_
    rw [seed0, seed0]
    exact stepCode_at m c t _ _ (coord0 t) R b s h l

/-- The scales after a step: those of the rows up to it, and zero elsewhere. -/
theorem scales_at (b : Fin 6) (s : Fin 256) : ∀ (n : ℕ) (hn : n < cfg0.N),
    (outsAt0 m c n hn).2 (ix2 b s) = if 256 * b.val + s.val < 32 * (n + 1) then scaleA m c b s else 0 := by
  intro n
  induction n with
  | zero =>
    intro hn
    have e := outsAt0_A m c ⟨0, hn⟩ rfl
    refine (congrFun (congrArg Prod.snd e) (ix2 b s)).trans ?_
    refine (outA_5_at c (grid0.coords ⟨0, hn⟩) _ _ _ _ _ _ _ _ _ _ _ _ _ _ (iblk m c 0 ⟨0, hn⟩) (iblk m c 1 ⟨0, hn⟩) (iblk m c 2 ⟨0, hn⟩) (iblk m c 3 ⟨0, hn⟩) ((hcond0_0 ⟨0, hn⟩).mpr rfl) b s).trans ?_
    rw [seed0, seed0]
    exact newScales_at m c ⟨0, hn⟩ _ _ (coord0 _) 0 b s (if_neg (by show ¬ _ < 32 * 0; omega)).symm
  | succ n ih =>
    intro hn
    have hn' : n + 1 < 48 := t_lt ⟨n + 1, hn⟩
    have e := outsAt0_B m c ⟨n + 1, hn⟩ (by show ¬ (n + 1) % 48 = 0; omega)
    refine (congrFun (congrArg Prod.snd e) (ix2 b s)).trans ?_
    refine (outB_5_at c (grid0.coords ⟨n + 1, hn⟩) _ _ _ _ _ _ _ _ _ _ _ _ _ _ (iblk m c 0 ⟨n + 1, hn⟩) (iblk m c 1 ⟨n + 1, hn⟩) (iblk m c 2 ⟨n + 1, hn⟩) (iblk m c 3 ⟨n + 1, hn⟩) _ _ b s).trans ?_
    rw [seed0, seed0]
    exact newScales_at m c ⟨n + 1, hn⟩ _ _ (coord0 _) _ b s (ih _)

/-! ## The arrays -/

theorem cut4 (i : grid0.Coords) (X : S32x18432.Idx → EReal) (y : S32x18432.Idx) : (cfg0.win 4).cut i X y = X y := by
  rfl
theorem cut5 (i : grid0.Coords) (X : S6x256.Idx → EReal) (y : S6x256.Idx) : (cfg0.win 5).cut i X y = X y := by
  rfl

theorem flushed4 (t : Fin cfg0.N) : (dats m 0 c).flushed 4 t = (cfg0.win 4).cut (grid0.coords t) ((outsAt0 m c t.val t.isLt).1) := by
  show (cfg0.win 4).cut (grid0.coords t) ((dats m 0 c).after 4 t) = _
  rw [after0_4]

theorem flushed5 (t : Fin cfg0.N) : (dats m 0 c).flushed 5 t = (cfg0.win 5).cut (grid0.coords t) ((outsAt0 m c t.val t.isLt).2) := by
  show (cfg0.win 5).cut (grid0.coords t) ((dats m 0 c).after 5 t) = _
  rw [after0_5]

theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem flush4 : ∀ t : Fin cfg0.N, (cfg0.win 4).flush t = true :=
  (by decide +kernel : ∀ t : Fin grid0.N, win0_4.flush t = true)

theorem blocks4 (t : Fin cfg0.N) :
    ((cfg0.win 4).blk t).view.read (Elt Ideal) ((dats m 0 c).arrAt 4 cfg0.N) = (dats m 0 c).flushed 4 t :=
  (dats m 0 c).read_blk_arrAt_eq_flushed 4 disjoint4 cfg0.N t t.isLt (flush4 t)

theorem read4 (t : Fin cfg0.N) (X : S1536x18432.Idx → EReal) (y : S32x18432.Idx) :
    ((cfg0.win 4).blk t).view.read (Elt Ideal) X y = X (((cfg0.win 4).blk t).view.emb y) := by
  rfl

/-- Row `R` of a step's block in the array of the codes. -/
theorem arr4_block (t : Fin cfg0.N) (R : Fin 32) (l : Fin 18432) :
    (dats m 0 c).arrAt 4 cfg0.N (ix2 (n0 := 1536) (n1 := 18432) ⟨32 * t.val + R.val, row_lt t R⟩ l) = (outsAt0 m c t.val t.isLt).1 (ix2 R l) := by
  have k := congrFun (blocks4 m c t) (ix2 (n0 := 32) (n1 := 18432) R l)
  rw [flushed4] at k
  have k2 := (read4 t ((dats m 0 c).arrAt 4 cfg0.N) (ix2 R l)).symm.trans k
  have k3 := k2.trans (cut4 (grid0.coords t) _ (ix2 R l))
  rw [emb4] at k3
  exact k3

/-- The array of the codes. -/
theorem arr4_at (n : Fin 1536) (l : Fin 18432) (b : Fin 6) (s : Fin 256) (h : n.val = 256 * b.val + s.val) :
    (dats m 0 c).arrAt 4 cfg0.N (ix2 n l) = codeA m c b s l := by
  have hn := n.isLt
  obtain ⟨t, ht⟩ : ∃ t : Fin cfg0.N, t.val = n.val / 32 := ⟨⟨n.val / 32, lt_of_lt_of_eq (by omega) N_0.symm⟩, rfl⟩
  obtain ⟨R, hR⟩ : ∃ R : Fin 32, R.val = n.val % 32 := ⟨⟨n.val % 32, by omega⟩, rfl⟩
  obtain rfl : (⟨32 * t.val + R.val, row_lt t R⟩ : Fin 1536) = n := Fin.ext (by show 32 * t.val + R.val = n.val; omega)
  exact (arr4_block m c t R l).trans (codes_at m c t R b s h l)

theorem flush5 : ∀ t : Fin cfg0.N, (cfg0.win 5).flush t = true → t.val = 47 :=
  (by decide +kernel : ∀ t : Fin grid0.N, win0_5.flush t = true → t.val = 47)

theorem flush5' : ∀ t : Fin cfg0.N, t.val = 47 → (cfg0.win 5).flush t = true :=
  (by decide +kernel : ∀ t : Fin grid0.N, t.val = 47 → win0_5.flush t = true)

theorem disjoint5 : ∀ t t' : Fin cfg0.N, (cfg0.win 5).flush t = true → (cfg0.win 5).flush t' = true → t ≠ t' →
    Disjoint ((cfg0.win 5).blk t).view.set ((cfg0.win 5).blk t').view.set :=
  fun t t' h h' hne => absurd (Fin.ext ((flush5 t h).trans (flush5 t' h').symm)) hne

/-- The array of the scales. -/
theorem arr5_at (b : Fin 6) (s : Fin 256) : (dats m 0 c).arrAt 5 cfg0.N (ix2 b s) = scaleA m c b s := by
  have ht : 47 < cfg0.N := lt_of_lt_of_eq (by decide) N_0.symm
  have k := congrFun ((dats m 0 c).read_blk_arrAt_eq_flushed 5 disjoint5 cfg0.N ⟨47, ht⟩ ht (flush5' _ rfl)) (ix2 (n0 := 6) (n1 := 256) b s)
  rw [flushed5] at k
  rw [← emb5 ⟨47, ht⟩ (ix2 b s)]
  refine (k.trans (cut5 _ _ _)).trans ((scales_at m c b s 47 ht).trans (if_pos ?_))
  omega

/-! ## The run -/

theorem tail_v3 : Pipeline.afterTail₀ cfgs (dats m) 0 (V0 m) [hostOps1] c main_v3
    = shapeCast (s := S1536x18432) S6x256x18432 ((dats m 0 c).arrAt 4 cfg0.N) shapeCasts_S1536x18432_S6x256x18432 := by
  unfold Pipeline.afterTail₀
  simp only [List.flatten_cons, List.flatten_nil, List.append_nil, hostOps1, StableHlo.after_cons, StableHlo.after_nil]
  rw [StableHlo.reshape_result]
  exact congrArg (fun x : S1536x18432.Idx → EReal => shapeCast S6x256x18432 x shapeCasts_S1536x18432_S6x256x18432)
    (Pipeline.withArrays_arr spec0 launch0.win.arr_inj c (V0 m c) (fun w => (dats m 0 c).arrAt w cfg0.N) 4)

/-- The codes the program leaves. -/
theorem v3_at (b : Fin 6) (s : Fin 256) (l : Fin 18432) :
    Pipeline.afterTail₀ cfgs (dats m) 0 (V0 m) [hostOps1] c main_v3 (ix3 b s l) = codeA m c b s l := by
  have hb := b.isLt
  have hs := s.isLt
  rw [tail_v3]
  refine (shapeCast_apply _ _ _ (ix2 (n0 := 1536) (n1 := 18432) ⟨256 * b.val + s.val, by omega⟩ l) ?_).trans (arr4_at m c _ l b s rfl)
  rw [Shape.rowMajor_val_three, Shape.rowMajor_val_two]
  show (256 * b.val + s.val) * 18432 + l.val = (b.val * 256 + s.val) * 18432 + l.val
  omega

/-- **The run of the kernel, read.** -/
theorem run : θ_run defs (onTc (τ := τ) (main (F := Ideal))) ⟨m, fun _ => 0, ρ⟩ fun r => ∀ c : Dev nD,
      (∀ (b : Fin 6) (s : Fin 256) (l : Fin 18432), r.2.mem ((c : Thread nD τ).loc main_v3) (ix3 b s l) = codeA m c b s l)
      ∧ (∀ (b : Fin 6) (s : Fin 256), r.2.mem ((c : Thread nD τ).loc main_v2_1) (ix2 b s) = scaleA m c b s) :=
  (θ_run defs _ _).mono (fun _ h c =>
    ⟨fun b s l => (congrFun ((h c).2 main_v3 (Pipeline.mem_restRefs_of main_v3 (by decide) (by decide))) (ix3 b s l)).trans (v3_at m c b s l),
      fun b s => (congrFun ((h c).1 5) (ix2 b s)).trans (arr5_at m c b s)⟩)
    (run_main m ρ)

end Cert.KernelIdeal.Value
-- ==== Proof.RefPure.lean ====
/- What the reference's arithmetic gives at an index: the dropped gradient. -/
module

public import proofs.«01_k».proof.Proof.Whole
public import proofs.«01_k».proof.Proof.ReferenceRun
public import Idealize.ShloMosaic.Lib.ValueIdx
public import Idealize.ShloMosaic.Lib.Pipeline.Value
public import Idealize.ShloMosaic.PureOps.Ideal.Laws

@[expose] public section

set_option maxRecDepth 16384

noncomputable section

namespace Cert.ReferenceIdeal.Value

open Cert.ReferenceIdeal.Gen Cert.ReferenceIdeal Cert.ReferenceIdeal.Body
open Idealize.ShloMosaic Idealize.ShloMosaic.TcCoe Idealize.ShloMosaic.ValueIdx
open Cert.Words Cert.Spec Cert.Scale

/-! ## The generator's words -/

theorem quad_lt (l : Fin 18432) : l.val / 4 < 4608 := by omega

/-- The counter of a quad. -/
theorem counter_at (b : Fin 6) (s : Fin 256) (q : Fin 4608) :
    k0_pay7 (ix3 b s q) = BitVec.ofNat 32 ((256 * b.val + s.val) * 4608 + q.val) := by
  show (BitVec.ofNat 32 (0 * 6 + b.val) * 256#32 + BitVec.ofNat 32 (0 * 256 + s.val)) * 4608#32 + BitVec.ofNat 32 (0 * 4608 + q.val) = _
  rw [show (256#32 : BitVec 32) = BitVec.ofNat 32 256 from rfl, show (4608#32 : BitVec 32) = BitVec.ofNat 32 4608 from rfl]
  simp only [← BitVec.ofNat_mul, ← BitVec.ofNat_add]
  congr 1
  omega

/-- The state after the rounds. -/
abbrev rounds (k0 k1 : BitVec 32) : PState := (rnd (F := Ideal))^[10] (k0_pay7, k0_pay8, k0_pay8, k0_pay8, k0, k1)

theorem rounds_at (k0 k1 : BitVec 32) (b : Fin 6) (s : Fin 256) (q : Fin 4608) :
    atR (rounds k0 k1) (ix3 b s q) = philox (BitVec.ofNat 32 ((256 * b.val + s.val) * 4608 + q.val)) k0 k1 := by
  unfold rounds
  rw [iter_at]
  unfold philox
  rw [← counter_at]
  rfl

/-- Four arrays set side by side along a last axis. -/
theorem beside_at (v0 v1 v2 v3 : IVec S6x256x4608x1 32) (b : Fin 6) (s : Fin 256) (q : Fin 4608) (r : Fin 4) :
    concatenate S6x256x4608x4 3 [⟨S6x256x4608x1, v0⟩, ⟨S6x256x4608x1, v1⟩, ⟨S6x256x4608x1, v2⟩, ⟨S6x256x4608x1, v3⟩]
        concatenates_S6x256x4608x1_S6x256x4608x1_S6x256x4608x1_S6x256x4608x1_S6x256x4608x4_d3 (ix4 b s q r)
      = (![v0, v1, v2, v3] : Fin 4 → IVec S6x256x4608x1 32) r (ix4 (n3 := 1) b s q 0) := by
  have hi : ∀ (r : Fin 4) (d : Fin S6x256x4608x1.rank), d.cast (rfl : S6x256x4608x1.rank = S6x256x4608x4.rank) ≠ (3 : Fin 4) →
      ((ix4 (n3 := 1) b s q 0 : S6x256x4608x1.Idx) d).val = ((ix4 (n3 := 4) b s q r : S6x256x4608x4.Idx) (d.cast rfl)).val := by
    intro r d hd
    match d with
    | ⟨0, _⟩ => rfl
    | ⟨1, _⟩ => rfl
    | ⟨2, _⟩ => rfl
    | ⟨3, _⟩ => exact absurd rfl hd
  match r with
  | ⟨0, h⟩ => exact concatenate_apply_piece (t := S6x256x4608x4) 3 [⟨S6x256x4608x1, v0⟩, ⟨S6x256x4608x1, v1⟩, ⟨S6x256x4608x1, v2⟩, ⟨S6x256x4608x1, v3⟩] concatenates_S6x256x4608x1_S6x256x4608x1_S6x256x4608x1_S6x256x4608x1_S6x256x4608x4_d3 (ix4 b s q ⟨0, h⟩) 0 (by simp) S6x256x4608x1 v0 rfl rfl 0 rfl (ix4 (n3 := 1) b s q 0) (hi _) rfl
  | ⟨1, h⟩ => exact concatenate_apply_piece (t := S6x256x4608x4) 3 [⟨S6x256x4608x1, v0⟩, ⟨S6x256x4608x1, v1⟩, ⟨S6x256x4608x1, v2⟩, ⟨S6x256x4608x1, v3⟩] concatenates_S6x256x4608x1_S6x256x4608x1_S6x256x4608x1_S6x256x4608x1_S6x256x4608x4_d3 (ix4 b s q ⟨1, h⟩) 1 (by simp) S6x256x4608x1 v1 rfl rfl 1 rfl (ix4 (n3 := 1) b s q 0) (hi _) rfl
  | ⟨2, h⟩ => exact concatenate_apply_piece (t := S6x256x4608x4) 3 [⟨S6x256x4608x1, v0⟩, ⟨S6x256x4608x1, v1⟩, ⟨S6x256x4608x1, v2⟩, ⟨S6x256x4608x1, v3⟩] concatenates_S6x256x4608x1_S6x256x4608x1_S6x256x4608x1_S6x256x4608x1_S6x256x4608x4_d3 (ix4 b s q ⟨2, h⟩) 2 (by simp) S6x256x4608x1 v2 rfl rfl 2 rfl (ix4 (n3 := 1) b s q 0) (hi _) rfl
  | ⟨3, h⟩ => exact concatenate_apply_piece (t := S6x256x4608x4) 3 [⟨S6x256x4608x1, v0⟩, ⟨S6x256x4608x1, v1⟩, ⟨S6x256x4608x1, v2⟩, ⟨S6x256x4608x1, v3⟩] concatenates_S6x256x4608x1_S6x256x4608x1_S6x256x4608x1_S6x256x4608x1_S6x256x4608x4_d3 (ix4 b s q ⟨3, h⟩) 3 (by simp) S6x256x4608x1 v3 rfl rfl 3 rfl (ix4 (n3 := 1) b s q 0) (hi _) rfl

/-- A state's four arrays, entry by entry along the columns. -/
theorem stacked_at (s0 s1 s2 s3 : IVec S6x256x4608 32) (b : Fin 6) (s : Fin 256) (l : Fin 18432) :
    shapeCast S6x256x18432 (concatenate S6x256x4608x4 3 [⟨S6x256x4608x1, shapeCast S6x256x4608x1 s0 shapeCasts_S6x256x4608_S6x256x4608x1⟩,
        ⟨S6x256x4608x1, shapeCast S6x256x4608x1 s1 shapeCasts_S6x256x4608_S6x256x4608x1⟩,
        ⟨S6x256x4608x1, shapeCast S6x256x4608x1 s2 shapeCasts_S6x256x4608_S6x256x4608x1⟩,
        ⟨S6x256x4608x1, shapeCast S6x256x4608x1 s3 shapeCasts_S6x256x4608_S6x256x4608x1⟩]
        concatenates_S6x256x4608x1_S6x256x4608x1_S6x256x4608x1_S6x256x4608x1_S6x256x4608x4_d3) shapeCasts_S6x256x4608x4_S6x256x18432 (ix3 b s l)
      = (![s0, s1, s2, s3] : Fin 4 → IVec S6x256x4608 32) ⟨l.val % 4, Nat.mod_lt _ (by decide)⟩ (ix3 b s ⟨l.val / 4, quad_lt l⟩) := by
  have one : ∀ x : IVec S6x256x4608 32, shapeCast S6x256x4608x1 x shapeCasts_S6x256x4608_S6x256x4608x1 (ix4 (n3 := 1) b s ⟨l.val / 4, quad_lt l⟩ 0)
      = x (ix3 b s ⟨l.val / 4, quad_lt l⟩) := by
    intro x
    refine shapeCast_apply x _ _ _ ?_
    rw [Shape.rowMajor_val_three, Shape.rowMajor_val_four]
    show (b.val * 256 + s.val) * 4608 + l.val / 4 = ((b.val * 256 + s.val) * 4608 + l.val / 4) * 1 + 0
    omega
  refine (shapeCast_apply _ _ _ (ix4 (n3 := 4) b s ⟨l.val / 4, quad_lt l⟩ ⟨l.val % 4, Nat.mod_lt _ (by decide)⟩) ?_).trans ?_
  · rw [Shape.rowMajor_val_three, Shape.rowMajor_val_four]
    show ((b.val * 256 + s.val) * 4608 + l.val / 4) * 4 + l.val % 4 = (b.val * 256 + s.val) * 18432 + l.val
    omega
  refine (beside_at _ _ _ _ b s _ _).trans ?_
  generalize (⟨l.val % 4, Nat.mod_lt _ (by decide)⟩ : Fin 4) = r
  fin_cases r
  · exact one s0
  · exact one s1
  · exact one s2
  · exact one s3

/-! ## A row's number over the columns -/

theorem column_at {α : Type} (x : S6x256.Idx → α) (b : Fin 6) (s : Fin 256) :
    shapeCast S6x256x1 x shapeCasts_S6x256_S6x256x1 (ix3 (n2 := 1) b s 0) = x (ix2 b s) := by
  refine shapeCast_apply x _ _ _ ?_
  rw [Shape.rowMajor_val_three, Shape.rowMajor_val_two]
  show b.val * 256 + s.val = (b.val * 256 + s.val) * 1 + 0
  omega

theorem spread_at {α : Type} (x : S6x256.Idx → α) (b : Fin 6) (s : Fin 256) (l : Fin 18432) :
    broadcastTo S6x256x18432 (shapeCast S6x256x1 x shapeCasts_S6x256_S6x256x1) broadcasts_S6x256x1_S6x256x18432 (ix3 b s l) = x (ix2 b s) := by
  refine (broadcastTo_apply _ _ (ix3 b s l) (ix3 (n2 := 1) b s 0) ?_).trans (column_at x b s)
  intro a
  match a with
  | ⟨0, _⟩ => rfl
  | ⟨1, _⟩ => rfl
  | ⟨2, _⟩ => rfl

theorem spread252_at {α : Type} (x : S6x256.Idx → α) (b : Fin 6) (s : Fin 256) (l : Fin 252) :
    broadcastTo S6x256x252 (shapeCast S6x256x1 x shapeCasts_S6x256_S6x256x1) broadcasts_S6x256x1_S6x256x252 (ix3 b s l) = x (ix2 b s) := by
  refine (broadcastTo_apply _ _ (ix3 b s l) (ix3 (n2 := 1) b s 0) ?_).trans (column_at x b s)
  intro a
  match a with
  | ⟨0, _⟩ => rfl
  | ⟨1, _⟩ => rfl
  | ⟨2, _⟩ => rfl

/-! ## The gradient -/

variable (k0 k1 : BitVec 32) (x0 : Vec Ideal S6x256x18432 .fp8e5m2) (x1 : Vec Ideal S6x256 .f32) (x3 : Vec Ideal S6x256x18432 .bf16)

/-- The gradients and the levels as the reference computes them. -/
abbrev gradR : FVec Ideal S6x256x18432 .f32 :=
  k0_pay11 (rounds k0 k1).1 (rounds k0 k1).2.1 (rounds k0 k1).2.2.1 (rounds k0 k1).2.2.2.1 x0 x1 x3
abbrev levelR : FVec Ideal S6x256 .f32 :=
  k0_pay12 (rounds k0 k1).1 (rounds k0 k1).2.1 (rounds k0 k1).2.2.1 (rounds k0 k1).2.2.2.1 x0 x1 x3

/-- The arguments by their coordinates. -/
abbrev rowR (b : Fin 6) (s : Fin 256) (l : Fin 18432) : EReal :=
  rowOf k0 k1 (fun b s l => x0 (ix3 b s l)) (fun b s l => x3 (ix3 b s l)) (fun b s => x1 (ix2 b s)) b s l

theorem pay11_at (s0 s1 s2 s3 : IVec S6x256x4608 32) (b : Fin 6) (s : Fin 256) (l : Fin 18432) :
    k0_pay11 (F := Ideal) s0 s1 s2 s3 x0 x1 x3 (ix3 b s l)
      = x0 (ix3 b s l) * x1 (ix2 b s) * Scalar.select (BitVec.ofBool (kept ((![s0, s1, s2, s3] : Fin 4 → IVec S6x256x4608 32) ⟨l.val % 4, Nat.mod_lt _ (by decide)⟩ (ix3 b s ⟨l.val / 4, quad_lt l⟩))))
        (Ideal.ofBits .f32 0x3F8E38E4#32) (Ideal.ofBits .f32 0x00000000#32) + x3 (ix3 b s l) := by
  rw [← stacked_at s0 s1 s2 s3 b s l]
  unfold k0_pay11
  exact congrArg (fun z => x0 (ix3 b s l) * z * _ + x3 (ix3 b s l)) (spread_at x1 b s l)

theorem pick_at (S : PState) (r : Fin 4) (y : S6x256x4608.Idx) :
    (![S.1, S.2.1, S.2.2.1, S.2.2.2.1] : Fin 4 → IVec S6x256x4608 32) r y = word (atR S y) r := by
  fin_cases r <;> rfl

theorem gradR_at (b : Fin 6) (s : Fin 256) (l : Fin 18432) : gradR k0 k1 x0 x1 x3 (ix3 b s l) = rowR k0 k1 x0 x1 x3 b s l := by
  unfold gradR
  rw [pay11_at, pick_at, rounds_at]
  rfl

end Cert.ReferenceIdeal.Value
-- ==== Proof.RefRow.lean ====
/- A row's level, its scale and its codes as the reference computes them. -/
module

public import proofs.«01_k».proof.Proof.RefPure
public import proofs.«01_k».proof.Proof.ReferenceRun
public import Idealize.ShloMosaic.Lib.ValueIdx
public import Idealize.ShloMosaic.Lib.Pipeline.Value
public import Idealize.ShloMosaic.PureOps.Ideal.Laws

@[expose] public section

set_option maxRecDepth 16384

noncomputable section

namespace Cert.ReferenceIdeal.Value

open Cert.ReferenceIdeal.Gen Cert.ReferenceIdeal Cert.ReferenceIdeal.Body
open Idealize.ShloMosaic Idealize.ShloMosaic.TcCoe Idealize.ShloMosaic.ValueIdx
open Cert.Words Cert.Spec Cert.Scale

variable (k0 k1 : BitVec 32) (x0 : Vec Ideal S6x256x18432 .fp8e5m2) (x1 : Vec Ideal S6x256 .f32) (x3 : Vec Ideal S6x256x18432 .bf16)

/-! ## The level -/

theorem lift_at (b : Fin 6) (s : Fin 256) (l : Fin 18432) : reduces_S6x256x18432_S6x256.lift (ix2 b s) l = (ix3 b s l : S6x256x18432.Idx) := by
  funext a
  match a with
  | ⟨0, _⟩ => rfl
  | ⟨1, _⟩ => rfl
  | ⟨2, _⟩ => rfl

theorem lift252_at (b : Fin 6) (s : Fin 256) (l : Fin 252) : reduces_S6x256x252_S6x256.lift (ix2 b s) l = (ix3 b s l : S6x256x252.Idx) := by
  funext a
  match a with
  | ⟨0, _⟩ => rfl
  | ⟨1, _⟩ => rfl
  | ⟨2, _⟩ => rfl

/-- The largest magnitude along a row. -/
theorem top_at (v : FVec Ideal S6x256x18432 .f32) (b : Fin 6) (s : Fin 256) :
    multiReduction .maximumf [2] S6x256 (absf v) 0xFF800000#32 reduces_S6x256x18432_S6x256 (.inl rfl) rfl (ix2 b s) = amax fun l => v (ix3 b s l) := by
  refine (Ideal.multiReduction_maximumf_single (absf v) 0xFF800000#32 reduces_S6x256x18432_S6x256 (.inl rfl) rfl (ix2 b s)).trans ?_
  apply eq_of_forall_ge_iff
  intro z
  rw [amax_le, Finset.fold_max_le]
  constructor
  · rintro ⟨-, h⟩ l
    exact le_of_eq_of_le (congrArg (absf v) (lift_at b s l)).symm (h (l : Fin 18432) (Finset.mem_univ _))
  · intro h
    refine ⟨by rw [show FloatOps.ofBits (F := Ideal) .f32 0xFF800000#32 = ⊥ from bot_eq]; exact bot_le, fun l _ => ?_⟩
    exact le_of_eq_of_le (congrArg (absf v) (lift_at b s l)) (h l)

theorem scaled_at (M : FVec Ideal S6x256 .f32) (y : S6x256.Idx) :
    mulf (F := Ideal) M (broadcast S6x256 (Scalar.ofBits .f32 0x37924925#32)) y = M y * Ideal.ofBits .f32 0x37924925#32 := rfl

theorem pay12_eq (s0 s1 s2 s3 : IVec S6x256x4608 32) :
    k0_pay12 (F := Ideal) s0 s1 s2 s3 x0 x1 x3
      = mulf (F := Ideal) (multiReduction .maximumf [2] S6x256 (absf (k0_pay11 (F := Ideal) s0 s1 s2 s3 x0 x1 x3)) 0xFF800000#32 reduces_S6x256x18432_S6x256 (.inl rfl) rfl)
        (broadcast S6x256 (Scalar.ofBits .f32 0x37924925#32)) := by
  unfold k0_pay12
  rfl

theorem levelR_at (b : Fin 6) (s : Fin 256) : levelR k0 k1 x0 x1 x3 (ix2 b s) = level (rowR k0 k1 x0 x1 x3 b s) := by
  refine (congrFun (pay12_eq x0 x1 x3 _ _ _ _) (ix2 b s)).trans ?_
  rw [scaled_at, top_at]
  exact congrArg level (funext fun l => gradR_at k0 k1 x0 x1 x3 b s l)

/-! ## The scale -/

/-- The listed powers of two, -/
abbrev powers : FVec Ideal S6x256x252 .f32 :=
  exp2 (sitofp .f32 (subi (iota .tc S6x256x252 32 [2] iota_S6x256x252_d2_w32) (broadcast S6x256x252 125#32)))
/-- and those above the row's number. -/
abbrev above (y : FVec Ideal S6x256 .f32) : FVec Ideal S6x256x252 .f32 :=
  select (cmpf .olt (broadcastTo S6x256x252 (shapeCast S6x256x1 y shapeCasts_S6x256_S6x256x1) broadcasts_S6x256x1_S6x256x252) powers) powers
    (broadcast S6x256x252 (Ideal.ofBits .f32 0x7F800000#32))

theorem powers_at (b : Fin 6) (s : Fin 256) (l : Fin 252) : powers (ix3 b s l) = pw l := by
  unfold pw
  rw [← Nat.zero_add l.val, ← Nat.zero_mul 252]
  rfl

theorem above_at (y : FVec Ideal S6x256 .f32) (b : Fin 6) (s : Fin 256) (l : Fin 252) :
    above y (ix3 b s l) = Scalar.select (Ideal.cmp .olt (y (ix2 b s)) (pw l)) (pw l) (Ideal.ofBits .f32 0x7F800000#32) := by
  rw [← spread252_at y b s l, ← powers_at b s l]
  rfl

theorem least_at (y : FVec Ideal S6x256 .f32) (b : Fin 6) (s : Fin 256) :
    multiReduction .minimumf [2] S6x256 (above y) 0x7F800000#32 reduces_S6x256x252_S6x256 (.inl rfl) rfl (ix2 b s) = least (y (ix2 b s)) := by
  refine (multiReduction_minimumf_eq_fold (above y) 0x7F800000#32 reduces_S6x256x252_S6x256 (.inl rfl) rfl (ix2 b s)).trans ?_
  refine (reduces_S6x256x252_S6x256.fold_filter_drop_single _ _ (above y) (ix2 b s)).trans ?_
  unfold least
  refine Finset.fold_congr fun l _ => ?_
  exact (congrArg (above y) (lift252_at b s l)).trans (above_at y b s l)

theorem pay1_at (y : FVec Ideal S6x256 .f32) (b : Fin 6) (s : Fin 256) : k0_pay1 (F := Ideal) y (ix2 b s) = rscale (y (ix2 b s)) := by
  unfold rscale
  rw [← least_at]
  rfl

/-! ## The codes -/

theorem pay2_at (v : FVec Ideal S6x256x18432 .f32) (y : FVec Ideal S6x256 .f32) (b : Fin 6) (s : Fin 256) (l : Fin 18432) :
    k0_pay2 (F := Ideal) v y (ix3 b s l) = code (v (ix3 b s l)) (Ideal.div (Ideal.ofBits .f32 0x3F800000#32) (rscale (y (ix2 b s)))) := by
  rw [← pay1_at]
  unfold k0_pay2
  exact congrArg (fun z => code (v (ix3 b s l)) z) (spread_at _ b s l)

theorem codeR_at (b : Fin 6) (s : Fin 256) (l : Fin 18432) :
    k0_pay2 (F := Ideal) (gradR k0 k1 x0 x1 x3) (levelR k0 k1 x0 x1 x3) (ix3 b s l)
      = codeOf k0 k1 (fun b s l => x0 (ix3 b s l)) (fun b s l => x3 (ix3 b s l)) (fun b s => x1 (ix2 b s)) b s l := by
  rw [pay2_at, gradR_at, levelR_at]
  rfl

theorem scaleR_at (b : Fin 6) (s : Fin 256) :
    k0_pay1 (F := Ideal) (levelR k0 k1 x0 x1 x3) (ix2 b s)
      = scaleOf k0 k1 (fun b s l => x0 (ix3 b s l)) (fun b s l => x3 (ix3 b s l)) (fun b s => x1 (ix2 b s)) b s := by
  rw [pay1_at, levelR_at]
  rfl

end Cert.ReferenceIdeal.Value
-- ==== Proof.RefArrays.lean ====
/- The reference's result arrays after the run, as the one function of the arguments. -/
module

public import proofs.«01_k».proof.Proof.RefRow
public import proofs.«01_k».proof.Proof.ReferenceFrame
public import Idealize.ShloMosaic.Lib.Pipeline.Value
public import Idealize.ShloMosaic.Lib.WholeRead
public import Idealize.ShloMosaic.Lib.Writes

@[expose] public section

set_option maxRecDepth 16384

noncomputable section

namespace Cert.ReferenceIdeal.Value

open Cert.ReferenceIdeal.Gen Cert.ReferenceIdeal Cert.ReferenceIdeal.Body
open Idealize.ShloMosaic Idealize.ShloMosaic.TcCoe Idealize.ShloMosaic.ValueIdx Idealize.ShloMosaic.Tactic
open Idealize.SL Idealize.SL.Sem
open Idealize.ShloMosaic.Pipeline (Dat)
open Cert.Words Cert.Spec Cert.Scale

/-! ## The body's stores -/

section Run

variable (c : Dev nD) (arg0 : Memref sig .tc .vmem S6x256x18432 .fp8e5m2) (harg0 : arg0.IsWhole) (arg1 : Memref sig .tc .vmem S6x256 .f32) (harg1 : arg1.IsWhole) (arg2 : Memref sig .tc .smem S2 .i32) (harg2 : arg2.IsWhole) (arg3 : Memref sig .tc .vmem S6x256x18432 .bf16) (harg3 : arg3.IsWhole) (arg4 : Memref sig .tc .vmem S6x256x18432 .fp8e5m2) (harg4 : arg4.IsWhole) (arg5 : Memref sig .tc .vmem S6x256 .f32) (harg5 : arg5.IsWhole)
  (x0 : Vec Ideal S6x256x18432 .fp8e5m2) (x1 : Vec Ideal S6x256 .f32) (x2 : Vec Ideal S2 .i32) (x3 : Vec Ideal S6x256x18432 .bf16)

theorem seed0 : refRun.sl.r (F := Ideal) c arg2 harg2 x2 = x2 (ix1 0) := by
  refine (harg2.readAt_unread (Val := Elt Ideal) x2 (Rect.unit (s := S2) ![0] S1.size inb_S2_S1_0).toLoadRect _).trans (congrArg x2 ?_)
  funext a; match a with | ⟨0, _⟩ => rfl
theorem seed1 : refRun.sl.r_1 (F := Ideal) c arg2 harg2 x2 = x2 (ix1 1) := by
  refine (harg2.readAt_unread (Val := Elt Ideal) x2 (Rect.unit (s := S2) ![1] S1.size inb_S2_S1_1).toLoadRect _).trans (congrArg x2 ?_)
  funext a; match a with | ⟨0, _⟩ => rfl

theorem load0 : View.readAt (Elt Ideal) arg0.view (Rect.unit (s := S6x256x18432) ![0, 0, 0] S6x256x18432.size inb_S6x256x18432_S6x256x18432_0_0_0).toLoadRect (harg0.unread x0) = x0 := by
  funext y
  refine (harg0.readAt_unread (Val := Elt Ideal) x0 _ _).trans (congrArg x0 ?_)
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem load3 : View.readAt (Elt Ideal) arg3.view (Rect.unit (s := S6x256x18432) ![0, 0, 0] S6x256x18432.size inb_S6x256x18432_S6x256x18432_0_0_0).toLoadRect (harg3.unread x3) = x3 := by
  funext y
  refine (harg3.readAt_unread (Val := Elt Ideal) x3 _ _).trans (congrArg x3 ?_)
  funext a; apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem load1 : View.readAt (Elt Ideal) arg1.view (Rect.unit (s := S6x256) ![0, 0] S6x256.size inb_S6x256_S6x256_0_0).toLoadRect (harg1.unread x1) = x1 := by
  funext y
  refine (harg1.readAt_unread (Val := Elt Ideal) x1 _ _).trans (congrArg x1 ?_)
  funext a; apply Fin.ext
  match a with
  | ⟨0, _⟩ => show 0 + 1 * (y 0).val = (y 0).val; omega
  | ⟨1, _⟩ => show 0 + 1 * (y 1).val = (y 1).val; omega

theorem trips_eq : Scf.trips k0_t1_loop.lb k0_t1_loop.ub k0_t1_loop.st = 10 := by decide +kernel

theorem grad_eq : refRun.sl.r_2 (F := Ideal) c arg0 harg0 arg1 harg1 arg2 harg2 arg3 harg3 x0 x1 x2 x3 = gradR (x2 (ix1 0)) (x2 (ix1 1)) x0 x1 x3 := by
  unfold refRun.sl.r_2
  rw [seed0, seed1, load0, load1, load3, trips_eq]
theorem level_eq : refRun.sl.r_3 (F := Ideal) c arg0 harg0 arg1 harg1 arg2 harg2 arg3 harg3 x0 x1 x2 x3 = levelR (x2 (ix1 0)) (x2 (ix1 1)) x0 x1 x3 := by
  unfold refRun.sl.r_3
  rw [seed0, seed1, load0, load1, load3, trips_eq]

/-- The one store of the codes. -/
theorem pieces4_eq : (refRun (F := Ideal) c arg0 harg0 arg1 harg1 arg2 harg2 arg3 harg3 arg4 harg4 arg5 harg5 x0 x1 x2 x3).1
    = [(⟨Rect.unit (s := S6x256x18432) ![0, 0, 0] S6x256x18432.size inb_S6x256x18432_S6x256x18432_0_0_0, k0_pay2 (gradR (x2 (ix1 0)) (x2 (ix1 1)) x0 x1 x3) (levelR (x2 (ix1 0)) (x2 (ix1 1)) x0 x1 x3)⟩ : View.Piece (Elt Ideal) S6x256x18432 .fp8e5m2)] := by
  rw [← grad_eq c arg0 harg0 arg1 harg1 arg2 harg2 arg3 harg3, ← level_eq c arg0 harg0 arg1 harg1 arg2 harg2 arg3 harg3]
  sl_kernel_rfl

/-- The one store of the scales. -/
theorem pieces5_eq : (refRun (F := Ideal) c arg0 harg0 arg1 harg1 arg2 harg2 arg3 harg3 arg4 harg4 arg5 harg5 x0 x1 x2 x3).2.1
    = [(⟨Rect.unit (s := S6x256) ![0, 0] S6x256.size inb_S6x256_S6x256_0_0, k0_pay1 (levelR (x2 (ix1 0)) (x2 (ix1 1)) x0 x1 x3)⟩ : View.Piece (Elt Ideal) S6x256 .f32)] := by
  rw [← level_eq c arg0 harg0 arg1 harg1 arg2 harg2 arg3 harg3]
  sl_kernel_rfl

/-- The whole of a result's block. -/
def all3 : Rect S6x256x18432 := Rect.unit (s := S6x256x18432) ![0, 0, 0] S6x256x18432.size inb_S6x256x18432_S6x256x18432_0_0_0
def all2 : Rect S6x256 := Rect.unit (s := S6x256) ![0, 0] S6x256.size inb_S6x256_S6x256_0_0

/-- A block after its one whole store. -/
theorem whole3 (v : View sig .tc .vmem S6x256x18432 .fp8e5m2) (f : v.ty.Contents (Elt Ideal)) (X : all3.shape.Idx → EReal) (y : S6x256x18432.Idx) (x : all3.shape.Idx) (h : ∀ a, (y a).val = (x a).val) :
    v.read (Elt Ideal) (v.writes (Elt Ideal) f [(⟨all3, X⟩ : View.Piece (Elt Ideal) S6x256x18432 .fp8e5m2)]) y = X x := by
  refine View.read_writes_cons_hit_of_coords v f all3 X [] x y fun a => ?_
  match a with
  | ⟨0, _⟩ => show (y 0).val = 0 + 1 * (x 0).val; have := h 0; omega
  | ⟨1, _⟩ => show (y 1).val = 0 + 1 * (x 1).val; have := h 1; omega
  | ⟨2, _⟩ => show (y 2).val = 0 + 1 * (x 2).val; have := h 2; omega
theorem whole2 (v : View sig .tc .vmem S6x256 .f32) (f : v.ty.Contents (Elt Ideal)) (X : all2.shape.Idx → EReal) (y : S6x256.Idx) (x : all2.shape.Idx) (h : ∀ a, (y a).val = (x a).val) :
    v.read (Elt Ideal) (v.writes (Elt Ideal) f [(⟨all2, X⟩ : View.Piece (Elt Ideal) S6x256 .f32)]) y = X x := by
  refine View.read_writes_cons_hit_of_coords v f all2 X [] x y fun a => ?_
  match a with
  | ⟨0, _⟩ => show (y 0).val = 0 + 1 * (x 0).val; have := h 0; omega
  | ⟨1, _⟩ => show (y 1).val = 0 + 1 * (x 1).val; have := h 1; omega

end Run

variable (m : (ℓ : Loc nD τ sig) → Buf (Elt Ideal) ℓ) (ρ : Dev nD → PrngReg) (c : Dev nD)

/-! ## The blocks -/

theorem emb0 (t : Fin cfg0.N) (z : S6x256x18432.Idx) : ((cfg0.win 0).blk t).view.emb z = z :=
  funext fun a => Fin.ext (Pipeline.Window.rect_emb_val_of_index_zero win0_0 t a rfl z)
theorem emb1 (t : Fin cfg0.N) (z : S6x256.Idx) : ((cfg0.win 1).blk t).view.emb z = z :=
  funext fun a => Fin.ext (Pipeline.Window.rect_emb_val_of_index_zero win0_1 t a rfl z)
theorem emb2 (t : Fin cfg0.N) (z : S2.Idx) : ((cfg0.win 2).blk t).view.emb z = z :=
  funext fun a => Fin.ext (Pipeline.Window.rect_emb_val_of_index_zero win0_2 t a rfl z)
theorem emb3 (t : Fin cfg0.N) (z : S6x256x18432.Idx) : ((cfg0.win 3).blk t).view.emb z = z :=
  funext fun a => Fin.ext (Pipeline.Window.rect_emb_val_of_index_zero win0_3 t a rfl z)
theorem emb4 (t : Fin cfg0.N) (z : S6x256x18432.Idx) : ((cfg0.win 4).blk t).view.emb z = z :=
  funext fun a => Fin.ext (Pipeline.Window.rect_emb_val_of_index_zero win0_4 t a rfl z)
theorem emb5 (t : Fin cfg0.N) (z : S6x256.Idx) : ((cfg0.win 5).blk t).view.emb z = z :=
  funext fun a => Fin.ext (Pipeline.Window.rect_emb_val_of_index_zero win0_5 t a rfl z)

theorem iblk0 (t : Fin cfg0.N) (z : S6x256x18432.Idx) : iblk m c 0 t z = m ((c : Thread nD τ).loc main_arg0) z := by
  show m ((c : Thread nD τ).loc main_arg0) (((cfg0.win 0).blk t).view.emb z) = _
  rw [emb0]
theorem iblk1 (t : Fin cfg0.N) (z : S6x256.Idx) : iblk m c 1 t z = m ((c : Thread nD τ).loc main_arg1) z := by
  show m ((c : Thread nD τ).loc main_arg1) (((cfg0.win 1).blk t).view.emb z) = _
  rw [emb1]
theorem iblk2 (t : Fin cfg0.N) (z : S2.Idx) : iblk m c 2 t z = m ((c : Thread nD τ).loc main_arg2) z := by
  show m ((c : Thread nD τ).loc main_arg2) (((cfg0.win 2).blk t).view.emb z) = _
  rw [emb2]
theorem iblk3 (t : Fin cfg0.N) (z : S6x256x18432.Idx) : iblk m c 3 t z = m ((c : Thread nD τ).loc main_arg3) z := by
  show m ((c : Thread nD τ).loc main_arg3) (((cfg0.win 3).blk t).view.emb z) = _
  rw [emb3]

/-! ## The results -/

/-- The arguments by their coordinates. -/
def seedA (k : Fin 2) : BitVec 32 := m ((c : Thread nD τ).loc main_arg2) (ix1 k)
def dyA (b : Fin 6) (s : Fin 256) (l : Fin 18432) : EReal := m ((c : Thread nD τ).loc main_arg0) (ix3 b s l)
def scA (b : Fin 6) (s : Fin 256) : EReal := m ((c : Thread nD τ).loc main_arg1) (ix2 b s)
def gA (b : Fin 6) (s : Fin 256) (l : Fin 18432) : EReal := m ((c : Thread nD τ).loc main_arg3) (ix3 b s l)

/-- The scale and the code of the arguments. -/
def scaleA (b : Fin 6) (s : Fin 256) : EReal := scaleOf (seedA m c 0) (seedA m c 1) (dyA m c) (gA m c) (scA m c) b s
def codeA (b : Fin 6) (s : Fin 256) (l : Fin 18432) : EReal := codeOf (seedA m c 0) (seedA m c 1) (dyA m c) (gA m c) (scA m c) b s l

theorem args_dy (t : Fin cfg0.N) : (fun b s l => iblk m c 0 t (ix3 b s l)) = dyA m c :=
  funext fun b => funext fun s => funext fun l => iblk0 m c t _
theorem args_g (t : Fin cfg0.N) : (fun b s l => iblk m c 3 t (ix3 b s l)) = gA m c :=
  funext fun b => funext fun s => funext fun l => iblk3 m c t _
theorem args_sc (t : Fin cfg0.N) : (fun b s => iblk m c 1 t (ix2 b s)) = scA m c :=
  funext fun b => funext fun s => iblk1 m c t _
theorem args_seed (t : Fin cfg0.N) (k : Fin 2) : iblk m c 2 t (ix1 (n := 2) k) = seedA m c k := iblk2 m c t _

theorem out4_at (t : Fin cfg0.N) (b : Fin 6) (s : Fin 256) (l : Fin 18432) : out4 m c t (ix3 b s l) = codeA m c b s l := by
  unfold out4
  rw [pieces4_eq]
  refine (whole3 _ _ _ (ix3 b s l) (ix3 b s l) fun _ => rfl).trans ((codeR_at _ _ _ _ _ b s l).trans ?_)
  rw [args_seed, args_seed]
  unfold codeA
  rw [← args_dy m c t, ← args_g m c t, ← args_sc m c t]

theorem out5_at (t : Fin cfg0.N) (b : Fin 6) (s : Fin 256) : out5 m c t (ix2 b s) = scaleA m c b s := by
  unfold out5
  rw [pieces5_eq]
  refine (whole2 _ _ _ (ix2 b s) (ix2 b s) fun _ => rfl).trans ((scaleR_at _ _ _ _ _ b s).trans ?_)
  rw [args_seed, args_seed]
  unfold scaleA
  rw [← args_dy m c t, ← args_g m c t, ← args_sc m c t]

/-! ## The arrays -/

theorem cut4 (i : grid0.Coords) (X : S6x256x18432.Idx → EReal) (y : S6x256x18432.Idx) : (cfg0.win 4).cut i X y = X y := by
  rfl
theorem cut5 (i : grid0.Coords) (X : S6x256.Idx → EReal) (y : S6x256.Idx) : (cfg0.win 5).cut i X y = X y := by
  rfl
theorem read4 (t : Fin cfg0.N) (X : S6x256x18432.Idx → EReal) (y : S6x256x18432.Idx) :
    ((cfg0.win 4).blk t).view.read (Elt Ideal) X y = X (((cfg0.win 4).blk t).view.emb y) := by
  rfl
theorem read5 (t : Fin cfg0.N) (X : S6x256.Idx → EReal) (y : S6x256.Idx) :
    ((cfg0.win 5).blk t).view.read (Elt Ideal) X y = X (((cfg0.win 5).blk t).view.emb y) := by
  rfl

theorem flushed4 (t : Fin cfg0.N) : (dats m 0 c).flushed 4 t = (cfg0.win 4).cut (grid0.coords t) (out4 m c t) := by
  show (cfg0.win 4).cut (grid0.coords t) ((dats m 0 c).after 4 t) = _
  rw [after0_4]
theorem flushed5 (t : Fin cfg0.N) : (dats m 0 c).flushed 5 t = (cfg0.win 5).cut (grid0.coords t) (out5 m c t) := by
  show (cfg0.win 5).cut (grid0.coords t) ((dats m 0 c).after 5 t) = _
  rw [after0_5]

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

theorem one_point : ∀ t t' : Fin cfg0.N, t = t' := (by decide +kernel : ∀ t t' : Fin grid0.N, t = t')

theorem first_lt : 0 < cfg0.N := lt_of_lt_of_eq (by decide) N_0.symm

/-- The array of the codes. -/
theorem arr4_at (b : Fin 6) (s : Fin 256) (l : Fin 18432) : (dats m 0 c).arrAt 4 cfg0.N (ix3 b s l) = codeA m c b s l := by
  have k := congrFun ((dats m 0 c).read_blk_arrAt_eq_flushed 4 (fun t t' _ _ hne => absurd (one_point t t') hne) cfg0.N ⟨0, first_lt⟩ first_lt (flush4 _)) (ix3 (n0 := 6) (n1 := 256) (n2 := 18432) b s l)
  rw [flushed4] at k
  have k2 := ((read4 ⟨0, first_lt⟩ ((dats m 0 c).arrAt 4 cfg0.N) (ix3 b s l)).symm.trans k).trans (cut4 _ _ _)
  rw [emb4] at k2
  exact k2.trans (out4_at m c _ b s l)

/-- The array of the scales. -/
theorem arr5_at (b : Fin 6) (s : Fin 256) : (dats m 0 c).arrAt 5 cfg0.N (ix2 b s) = scaleA m c b s := by
  have k := congrFun ((dats m 0 c).read_blk_arrAt_eq_flushed 5 (fun t t' _ _ hne => absurd (one_point t t') hne) cfg0.N ⟨0, first_lt⟩ first_lt (flush5 _)) (ix2 (n0 := 6) (n1 := 256) b s)
  rw [flushed5] at k
  have k2 := ((read5 ⟨0, first_lt⟩ ((dats m 0 c).arrAt 5 cfg0.N) (ix2 b s)).symm.trans k).trans (cut5 _ _ _)
  rw [emb5] at k2
  exact k2.trans (out5_at m c _ b s)

/-- **The run of the reference, read.** -/
theorem run : θ_run defs (onTc (τ := τ) (main (F := Ideal))) ⟨m, fun _ => 0, ρ⟩ fun r => ∀ c : Dev nD,
      (∀ (b : Fin 6) (s : Fin 256) (l : Fin 18432), r.2.mem ((c : Thread nD τ).loc main_v0_0) (ix3 b s l) = codeA m c b s l)
      ∧ (∀ (b : Fin 6) (s : Fin 256), r.2.mem ((c : Thread nD τ).loc main_v0_1) (ix2 b s) = scaleA m c b s) :=
  (θ_run defs _ _).mono (fun _ h c =>
    ⟨fun b s l => (congrFun ((h c).1 4) (ix3 b s l)).trans (arr4_at m c b s l),
      fun b s => (congrFun ((h c).1 5) (ix2 b s)).trans (arr5_at m c b s)⟩)
    (run_main m ρ)

end Cert.ReferenceIdeal.Value
-- ==== Proof.Equal.lean ====
/- The kernel and the reference leave the same results. -/
module

public import proofs.«01_k».proof.Defs
public import proofs.«01_k».proof.Proof.Gen.KernelIdeal
public import proofs.«01_k».proof.Proof.Gen.ReferenceIdeal
public import proofs.«01_k».proof.Proof.Arrays
public import proofs.«01_k».proof.Proof.RefArrays
public import Idealize.ShloMosaic.Lib.Claim

@[expose] public section

set_option maxRecDepth 16384

noncomputable section

namespace Cert.Equal

open Idealize.ShloMosaic Idealize.ShloMosaic.TcCoe Idealize.ShloMosaic.ValueIdx
open Idealize.SL Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The codes and the scales as arrays. -/
def codes : KernelIdeal.S6x256x18432.Idx → EReal := fun y => KernelIdeal.Value.codeA m c (y 0) (y 1) (y 2)
def scales : KernelIdeal.S6x256.Idx → EReal := fun y => KernelIdeal.Value.scaleA m c (y 0) (y 1)

/-- An array given at every triple of coordinates. -/
theorem ext3 (X : KernelIdeal.S6x256x18432.Idx → EReal) (f : Fin 6 → Fin 256 → Fin 18432 → EReal)
    (h : ∀ b s l, X (ix3 b s l) = f b s l) : X = fun y => f (y 0) (y 1) (y 2) :=
  funext fun y => (congrArg X (eq_ix3 y)).trans (h _ _ _)
theorem ext2 (X : KernelIdeal.S6x256.Idx → EReal) (f : Fin 6 → Fin 256 → EReal)
    (h : ∀ b s, X (ix2 b s) = f b s) : X = fun y => f (y 0) (y 1) :=
  funext fun y => (congrArg X (eq_ix2 y)).trans (h _ _)

section Args

variable
  (h0 : m' ((c : Thread ReferenceIdeal.nD ReferenceIdeal.τ).loc ReferenceIdeal.main_arg0) = m ((c : Thread KernelIdeal.nD KernelIdeal.τ).loc KernelIdeal.main_arg0))
  (h1 : m' ((c : Thread ReferenceIdeal.nD ReferenceIdeal.τ).loc ReferenceIdeal.main_arg1) = m ((c : Thread KernelIdeal.nD KernelIdeal.τ).loc KernelIdeal.main_arg1))
  (h2 : m' ((c : Thread ReferenceIdeal.nD ReferenceIdeal.τ).loc ReferenceIdeal.main_arg2) = m ((c : Thread KernelIdeal.nD KernelIdeal.τ).loc KernelIdeal.main_arg2))
  (h3 : m' ((c : Thread ReferenceIdeal.nD ReferenceIdeal.τ).loc ReferenceIdeal.main_arg3) = m ((c : Thread KernelIdeal.nD KernelIdeal.τ).loc KernelIdeal.main_arg3))

include h0 in
theorem dy_eq : ReferenceIdeal.Value.dyA m' c = KernelIdeal.Value.dyA m c :=
  funext fun b => funext fun s => funext fun l => congrFun h0 (ix3 b s l)
include h1 in
theorem sc_eq : ReferenceIdeal.Value.scA m' c = KernelIdeal.Value.scA m c :=
  funext fun b => funext fun s => congrFun h1 (ix2 b s)
include h2 in
theorem seed_eq (k : Fin 2) : ReferenceIdeal.Value.seedA m' c k = KernelIdeal.Value.seedA m c k := congrFun h2 (ix1 k)
include h3 in
theorem g_eq : ReferenceIdeal.Value.gA m' c = KernelIdeal.Value.gA m c :=
  funext fun b => funext fun s => funext fun l => congrFun h3 (ix3 b s l)

include h0 h1 h2 h3

theorem code_eq (b : Fin 6) (s : Fin 256) (l : Fin 18432) : ReferenceIdeal.Value.codeA m' c b s l = KernelIdeal.Value.codeA m c b s l := by
  unfold ReferenceIdeal.Value.codeA KernelIdeal.Value.codeA
  rw [dy_eq m m' c h0, sc_eq m m' c h1, seed_eq m m' c h2, seed_eq m m' c h2, g_eq m m' c h3]
theorem scale_eq (b : Fin 6) (s : Fin 256) : ReferenceIdeal.Value.scaleA m' c b s = KernelIdeal.Value.scaleA m c b s := by
  unfold ReferenceIdeal.Value.scaleA KernelIdeal.Value.scaleA
  rw [dy_eq m m' c h0, sc_eq m m' c h1, seed_eq m m' c h2, seed_eq m m' c h2, g_eq m m' c h3]

end Args

/-- **The kernel computes the reference's results.** -/
theorem algebraic : algebraic_KernelIdeal_ReferenceIdeal (hKernelIdeal := KernelIdeal.Gen.facts) (hReferenceIdeal := ReferenceIdeal.Gen.facts) := by
  intro m g m' g' _ hargs
  refine ⟨fun c => codes m c, fun c => scales m c, ?_, ?_⟩
  · refine (θ_run _ _ _).mono (fun r h c => ?_) (θ_run_and (KernelIdeal.Value.run m g) (KernelIdeal.Body.unchanged m g))
    exact ⟨ext3 _ _ (h.1 c).1, ext2 _ _ (h.1 c).2, h.2 c⟩
  · refine (θ_run _ _ _).mono (fun r h c => ?_) (θ_run_and (ReferenceIdeal.Value.run m' g') (ReferenceIdeal.Body.unchanged m' g'))
    obtain ⟨h0, h1, h2, h3⟩ := hargs c
    exact ⟨ext3 _ _ fun b s l => ((h.1 c).1 b s l).trans (code_eq m m' c h0 h1 h2 h3 b s l),
      ext2 _ _ fun b s => ((h.1 c).2 b s).trans (scale_eq m m' c h0 h1 h2 h3 b s), h.2 c⟩

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelIdealFrame
public import proofs.«01_k».proof.Proof.ReferenceFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The claims of the statement. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Body.frame m ρ, trivial, Cert.Equal.algebraic⟩

end Cert.Proof

end
